-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normalised_in_range [hPre_normalised_in_range : Cert.Pre_normalised_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_normalised_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_normalised_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_normalised_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normalised_in_range [hPre_normalised_in_range : Cert.Pre_normalised_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normalised_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_normalised_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_normalised_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_normalised_in_range [hKernelIdeal : Cert.KernelIdeal.Facts] [hPre_normalised_in_range : Cert.Pre_normalised_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normalised_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_normalised_in_range [hReferenceIdeal : Cert.ReferenceIdeal.Facts] [hPre_normalised_in_range : Cert.Pre_normalised_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normalised_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_temp" .f32 0x41649249#32 ((134217728 / 9395241 : ℝ) : EReal)

def algebraic_KernelIdeal_ReferenceIdeal_pre_normalised_in_range [hKernelIdeal : Cert.KernelIdeal.Facts] [hReferenceIdeal : Cert.ReferenceIdeal.Facts] [hPre_normalised_in_range : Cert.Pre_normalised_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normalised_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_cst_0)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_cst_0) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_cst_16) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_normalised_in_range : Cert.Pre_normalised_in_range.Facts),
    quiescent_Kernel (hKernel := hKernel)
    ∧ quiescent_KernelIdeal (hKernelIdeal := hKernelIdeal)
    ∧ quiescent_KernelIdeal_pre_normalised_in_range (hKernelIdeal := hKernelIdeal) (hPre_normalised_in_range := hPre_normalised_in_range)
    ∧ quiescent_ReferenceIdeal (hReferenceIdeal := hReferenceIdeal)
    ∧ quiescent_ReferenceIdeal_pre_normalised_in_range (hReferenceIdeal := hReferenceIdeal) (hPre_normalised_in_range := hPre_normalised_in_range)
    ∧ preserves_Kernel_KernelIdeal
    ∧ algebraic_KernelIdeal_ReferenceIdeal_pre_normalised_in_range (hKernelIdeal := hKernelIdeal) (hReferenceIdeal := hReferenceIdeal) (hPre_normalised_in_range := hPre_normalised_in_range)
-- ==== Pre_normalised_in_range.lean ====
abbrev S8192x256 : Shape := ⟨2, ![8192, 256]⟩
abbrev S8192 : Shape := ⟨1, ![8192]⟩
abbrev S3328x256 : Shape := ⟨2, ![3328, 256]⟩
abbrev S_ : Shape := ⟨0, ![]⟩
abbrev S3328 : Shape := ⟨1, ![3328]⟩

class Facts : Prop where
  bcast_S_S8192x256 : S_.BroadcastsInDim S8192x256 (![] : Fin 0 → Fin S8192x256.rank)
  bcast_S_S8192 : S_.BroadcastsInDim S8192 (![] : Fin 0 → Fin S8192.rank)
  reducesTo_S3328x256_S3328_d1 : S3328x256.ReducesTo [1] S3328
  h_S_ : 0 < S_.numel
  bcast_S_S3328 : S_.BroadcastsInDim S3328 (![] : Fin 0 → Fin S3328.rank)

variable [Facts]

def fn {F : FTy → Type} [FloatOps F] (main_arg0 : FVec F S8192x256 .f32) (main_arg1 : IVec S8192 32) (main_arg2 : FVec F S3328x256 .f32) : IVec S8192x256 1 × IVec S8192 1 × IVec S3328 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 32 := constantI S_ 32 0#32
  let main_v3 : IVec S8192 32 := broadcastInDim S8192 ![] bcast_S_S8192 main_c
  let main_v4 : IVec S8192 1 := cmpi .sge main_arg1 main_v3
  let main_c_0 : IVec S_ 32 := constantI S_ 32 26#32
  let main_v5 : IVec S8192 32 := broadcastInDim S8192 ![] bcast_S_S8192 main_c_0
  let main_v6 : IVec S8192 1 := cmpi .slt main_arg1 main_v5
  let main_v7 : IVec S8192 1 := andi main_v4 main_v6
  let main_v8 : FVec F S3328x256 .f32 := mulf main_arg2 main_arg2
  let main_cst_1 : FVec F S_ .f32 := constant S_ .f32 0x00000000#32
  let main_v9 : FVec F S3328 .f32 := (fun x v => Host.reduceAdd x v reducesTo_S3328x256_S3328_d1 h_S_) main_v8 main_cst_1
  let main_cst_2 : FVec F S_ .f32 := constant S_ .f32 0x3F800000#32
  let main_v10 : FVec F S3328 .f32 := broadcastInDim S3328 ![] bcast_S_S3328 main_cst_2
  let main_v11 : IVec S3328 1 := cmpf .oeq main_v9 main_v10
  (main_v2, main_v7, main_v11)
-- ==== Kernel.lean ====
abbrev S8192x256 : Shape := ⟨2, ![8192, 256]⟩
abbrev S8192 : Shape := ⟨1, ![8192]⟩
abbrev S3328x256 : Shape := ⟨2, ![3328, 256]⟩
abbrev S8192x1 : Shape := ⟨2, ![8192, 1]⟩
abbrev S1x1 : Shape := ⟨2, ![1, 1]⟩
abbrev S1024x1 : Shape := ⟨2, ![1024, 1]⟩
abbrev S1024x256 : Shape := ⟨2, ![1024, 256]⟩
abbrev S1024x3328 : Shape := ⟨2, ![1024, 3328]⟩
abbrev S128x1 : Shape := ⟨2, ![128, 1]⟩
abbrev S128x128 : Shape := ⟨2, ![128, 128]⟩
abbrev S1024x128 : Shape := ⟨2, ![1024, 128]⟩
abbrev S1024 : Shape := ⟨1, ![1024]⟩
abbrev S128x3328 : Shape := ⟨2, ![128, 3328]⟩
abbrev S256x256 : Shape := ⟨2, ![256, 256]⟩
abbrev S256x3328 : Shape := ⟨2, ![256, 3328]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S_ : Shape := ⟨0, ![]⟩

abbrev nBuf : Space → Nat
  | .hbm => 15
  | .vmem => 10
  | .smem => 1
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S3328x256, .f32⟩
  | .hbm, ⟨3, _⟩ => ⟨S8192x1, .i32⟩
  | .hbm, ⟨4, _⟩ => ⟨S8192x256, .bf16⟩
  | .hbm, ⟨5, _⟩ => ⟨S3328x256, .bf16⟩
  | .hbm, ⟨6, _⟩ => ⟨S8192x256, .f32⟩
  | .hbm, ⟨7, _⟩ => ⟨S8192x1, .i32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192, .i32⟩
  | .hbm, ⟨14, _⟩ => ⟨S_, .f32⟩
  | .local _ .vmem, ⟨0, _⟩ => ⟨S1024x1, .i32⟩
  | .local _ .vmem, ⟨1, _⟩ => ⟨S1024x1, .i32⟩
  | .local _ .vmem, ⟨2, _⟩ => ⟨S1024x256, .bf16⟩
  | .local _ .vmem, ⟨3, _⟩ => ⟨S1024x256, .bf16⟩
  | .local _ .vmem, ⟨4, _⟩ => ⟨S3328x256, .bf16⟩
  | .local _ .vmem, ⟨5, _⟩ => ⟨S3328x256, .f32⟩
  | .local _ .vmem, ⟨6, _⟩ => ⟨S1024x256, .f32⟩
  | .local _ .vmem, ⟨7, _⟩ => ⟨S1024x256, .f32⟩
  | .local _ .vmem, ⟨8, _⟩ => ⟨S1024x1, .i32⟩
  | .local _ .vmem, ⟨9, _⟩ => ⟨S1024x1, .i32⟩
  | .local _ .smem, ⟨0, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let c2_i32_422 : BitVec 32 := 2#32
  let arg0 : BitVec 32 := BitVec.ofNat 32 (i 0).val
  let v2371 : BitVec 32 := Scalar.muli c2_i32_422 arg0
  let c0_i32_423 : BitVec 32 := 0#32
  let v2372 : BitVec 32 := Scalar.addi v2371 c0_i32_423
  let c13_i32_424 : BitVec 32 := 13#32
  let v2373 : BitVec 1 := Scalar.cmpi .slt v2372 c13_i32_424
  let v2374 : BitVec 32 := Scalar.extui v2373
  let c0_i32_425 : BitVec 32 := 0#32
  let v2375 : BitVec 1 := Scalar.cmpi .ne v2374 c0_i32_425
  v2375

def k0_off1 (i : grid0.Coords) : Fin 2 → Nat :=
  let c2_i32_422 : BitVec 32 := 2#32
  let arg0 : BitVec 32 := BitVec.ofNat 32 (i 0).val
  let v2371 : BitVec 32 := Scalar.muli c2_i32_422 arg0
  let c0_i32_423 : BitVec 32 := 0#32
  let v2372 : BitVec 32 := Scalar.addi v2371 c0_i32_423
  let c256_i32 : BitVec 32 := 256#32
  let v2382 : BitVec 32 := Scalar.muli v2372 c256_i32
  let v2383 : Index := Scalar.indexCast v2382
  let c0_432 : Index := 0#32
  ![v2383.toNat, 0]
def k0_cond3 (i : grid0.Coords) : BitVec 1 :=
  let c2_i32_426 : BitVec 32 := 2#32
  let arg0 : BitVec 32 := BitVec.ofNat 32 (i 0).val
  let v2376 : BitVec 32 := Scalar.muli c2_i32_426 arg0
  let c1_i32_427 : BitVec 32 := 1#32
  let v2377 : BitVec 32 := Scalar.addi v2376 c1_i32_427
  let c13_i32_428 : BitVec 32 := 13#32
  let v2378 : BitVec 1 := Scalar.cmpi .slt v2377 c13_i32_428
  let v2379 : BitVec 32 := Scalar.extui v2378
  let c0_i32_429 : BitVec 32 := 0#32
  let v2380 : BitVec 1 := Scalar.cmpi .ne v2379 c0_i32_429
  v2380

def k0_off2 (i : grid0.Coords) : Fin 2 → Nat :=
  let c2_i32_426 : BitVec 32 := 2#32
  let arg0 : BitVec 32 := BitVec.ofNat 32 (i 0).val
  let v2376 : BitVec 32 := Scalar.muli c2_i32_426 arg0
  let c1_i32_427 : BitVec 32 := 1#32
  let v2377 : BitVec 32 := Scalar.addi v2376 c1_i32_427
  let c256_i32 : BitVec 32 := 256#32
  let v2382 : BitVec 32 := Scalar.muli v2377 c256_i32
  let v2383 : Index := Scalar.indexCast v2382
  let c0_432 : Index := 0#32
  ![v2383.toNat, 0]
def k0_cond1 (i : grid0.Coords) : BitVec 1 :=
  let arg0 : BitVec 32 := BitVec.ofNat 32 (i 0).val
  let c0_i32_420 : BitVec 32 := 0#32
  let v2368 : BitVec 1 := Scalar.cmpi .eq arg0 c0_i32_420
  let v2369 : BitVec 32 := Scalar.extui v2368
  let c0_i32_421 : BitVec 32 := 0#32
  let v2370 : BitVec 1 := Scalar.cmpi .ne v2369 c0_i32_421
  v2370

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3328x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3328x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "inv_temp" => some ((134217728 / 9395241 : ℝ) : EReal)
  | _ => none
-- ==== ReferenceIdeal.lean ====
abbrev S8192x256 : Shape := ⟨2, ![8192, 256]⟩
abbrev S8192 : Shape := ⟨1, ![8192]⟩
abbrev S3328x256 : Shape := ⟨2, ![3328, 256]⟩
abbrev S_ : Shape := ⟨0, ![]⟩
abbrev S26 : Shape := ⟨1, ![26]⟩
abbrev S1 : Shape := ⟨1, ![1]⟩
abbrev S25 : Shape := ⟨1, ![25]⟩
abbrev S8192x1 : Shape := ⟨2, ![8192, 1]⟩
abbrev S256x3328 : Shape := ⟨2, ![256, 3328]⟩
abbrev S8192x3328 : Shape := ⟨2, ![8192, 3328]⟩
abbrev S3328 : Shape := ⟨1, ![3328]⟩
abbrev S1x3328 : Shape := ⟨2, ![1, 3328]⟩
abbrev S3328x1 : Shape := ⟨2, ![3328, 1]⟩
abbrev S3328x3328 : Shape := ⟨2, ![3328, 3328]⟩
abbrev S1x26 : Shape := ⟨2, ![1, 26]⟩
abbrev S3328x26 : Shape := ⟨2, ![3328, 26]⟩

abbrev nBuf : Space → Nat
  | .hbm => 117
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S3328x256, .f32⟩
  | .hbm, ⟨3, _⟩ => ⟨S_, .i32⟩
  | .hbm, ⟨4, _⟩ => ⟨S26, .i32⟩
  | .hbm, ⟨5, _⟩ => ⟨S_, .i32⟩
  | .hbm, ⟨6, _⟩ => ⟨S_, .i32⟩
  | .hbm, ⟨7, _⟩ => ⟨S26, .i32⟩
  | .hbm, ⟨8, _⟩ => ⟨S_, .i32⟩
  | .hbm, ⟨9, _⟩ => ⟨S1, .i32⟩
  | .hbm, ⟨10, _⟩ => ⟨S25, .i32⟩
  | .hbm, ⟨11, _⟩ => ⟨S26, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S8192, .i32⟩
  | .hbm, ⟨21, _⟩ => ⟨S256x3328, .f32⟩
  | .hbm, ⟨22, _⟩ => ⟨S8192x3328, .f32⟩
  | .hbm, ⟨23, _⟩ => ⟨S_, .f32⟩
  | .hbm, ⟨24, _⟩ => ⟨S8192x3328, .f32⟩
  | .hbm, ⟨25, _⟩ => ⟨S8192x3328, .f32⟩
  | .hbm, ⟨26, _⟩ => ⟨S3328, .i32⟩
  | .hbm, ⟨27, _⟩ => ⟨S1x3328, .i32⟩
  | .hbm, ⟨28, _⟩ => ⟨S8192x1, .i32⟩
  | .hbm, ⟨29, _⟩ => ⟨S8192x3328, .i32⟩
  | .hbm, ⟨30, _⟩ => ⟨S8192x3328, .i32⟩
  | .hbm, ⟨31, _⟩ => ⟨S8192x3328, .i1⟩
  | .hbm, ⟨32, _⟩ => ⟨S8192x1, .i32⟩
  | .hbm, ⟨33, _⟩ => ⟨S_, .i32⟩
  | .hbm, ⟨34, _⟩ => ⟨S8192x1, .i32⟩
  | .hbm, ⟨35, _⟩ => ⟨S8192x1, .i32⟩
  | .hbm, ⟨36, _⟩ => ⟨S8192x3328, .i32⟩
  | .hbm, ⟨37, _⟩ => ⟨S8192x3328, .i32⟩
  | .hbm, ⟨38, _⟩ => ⟨S8192x3328, .i1⟩
  | .hbm, ⟨39, _⟩ => ⟨S8192x3328, .i1⟩
  | .hbm, ⟨40, _⟩ => ⟨S_, .f32⟩
  | .hbm, ⟨41, _⟩ => ⟨S_, .f32⟩
  | .hbm, ⟨42, _⟩ => ⟨S8192x3328, .f32⟩
  | .hbm, ⟨43, _⟩ => ⟨S8192x3328, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1, .f32⟩
  | .hbm, ⟨50, _⟩ => ⟨S8192x3328, .f32⟩
  | .hbm, ⟨51, _⟩ => ⟨S8192x3328, .f32⟩
  | .hbm, ⟨52, _⟩ => ⟨S8192x3328, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x3328, .f32⟩
  | .hbm, ⟨57, _⟩ => ⟨S8192x3328, .f32⟩
  | .hbm, ⟨58, _⟩ => ⟨S8192x256, .f32⟩
  | .hbm, ⟨59, _⟩ => ⟨S8192x3328, .i32⟩
  | .hbm, ⟨60, _⟩ => ⟨S_, .f32⟩
  | .hbm, ⟨61, _⟩ => ⟨S_, .i32⟩
  | .hbm, ⟨62, _⟩ => ⟨S8192, .f32⟩
  | .hbm, ⟨63, _⟩ => ⟨S8192, .i32⟩
  | .hbm, ⟨64, _⟩ => ⟨S3328x256, .f32⟩
  | .hbm, ⟨65, _⟩ => ⟨S_, .f32⟩
  | .hbm, ⟨66, _⟩ => ⟨S3328, .f32⟩
  | .hbm, ⟨67, _⟩ => ⟨S3328x1, .f32⟩
  | .hbm, ⟨68, _⟩ => ⟨S3328x1, .f32⟩
  | .hbm, ⟨69, _⟩ => ⟨S3328x256, .f32⟩
  | .hbm, ⟨70, _⟩ => ⟨S3328x256, .f32⟩
  | .hbm, ⟨71, _⟩ => ⟨S256x3328, .f32⟩
  | .hbm, ⟨72, _⟩ => ⟨S3328x3328, .f32⟩
  | .hbm, ⟨73, _⟩ => ⟨S3328, .i32⟩
  | .hbm, ⟨74, _⟩ => ⟨S1x26, .i32⟩
  | .hbm, ⟨75, _⟩ => ⟨S3328x1, .i32⟩
  | .hbm, ⟨76, _⟩ => ⟨S3328x26, .i32⟩
  | .hbm, ⟨77, _⟩ => ⟨S3328x26, .i32⟩
  | .hbm, ⟨78, _⟩ => ⟨S3328x26, .i1⟩
  | .hbm, ⟨79, _⟩ => ⟨S3328x26, .i32⟩
  | .hbm, ⟨80, _⟩ => ⟨S_, .i32⟩
  | .hbm, ⟨81, _⟩ => ⟨S3328, .i32⟩
  | .hbm, ⟨82, _⟩ => ⟨S1x3328, .i32⟩
  | .hbm, ⟨83, _⟩ => ⟨S3328x1, .i32⟩
  | .hbm, ⟨84, _⟩ => ⟨S3328x3328, .i32⟩
  | .hbm, ⟨85, _⟩ => ⟨S3328x3328, .i32⟩
  | .hbm, ⟨86, _⟩ => ⟨S3328x3328, .i1⟩
  | .hbm, ⟨87, _⟩ => ⟨S3328x3328, .i32⟩
  | .hbm, ⟨88, _⟩ => ⟨S3328x3328, .i32⟩
  | .hbm, ⟨89, _⟩ => ⟨S_, .i32⟩
  | .hbm, ⟨90, _⟩ => ⟨S3328x3328, .i32⟩
  | .hbm, ⟨91, _⟩ => ⟨S3328x3328, .i32⟩
  | .hbm, ⟨92, _⟩ => ⟨S3328x3328, .i1⟩
  | .hbm, ⟨93, _⟩ => ⟨S_, .f32⟩
  | .hbm, ⟨94, _⟩ => ⟨S_, .f32⟩
  | .hbm, ⟨95, _⟩ => ⟨S3328x3328, .f32⟩
  | .hbm, ⟨96, _⟩ => ⟨S3328x3328, .f32⟩
  | .hbm, ⟨97, _⟩ => ⟨S_, .f32⟩
  | .hbm, ⟨98, _⟩ => ⟨S3328x3328, .f32⟩
  | .hbm, ⟨99, _⟩ => ⟨S3328x3328, .f32⟩
  | .hbm, ⟨100, _⟩ => ⟨S3328x3328, .f32⟩
  | .hbm, ⟨101, _⟩ => ⟨S_, .f32⟩
  | .hbm, ⟨102, _⟩ => ⟨S3328, .f32⟩
  | .hbm, ⟨103, _⟩ => ⟨S3328x1, .f32⟩
  | .hbm, ⟨104, _⟩ => ⟨S3328x3328, .f32⟩
  | .hbm, ⟨105, _⟩ => ⟨S3328x3328, .f32⟩
  | .hbm, ⟨106, _⟩ => ⟨S_, .f32⟩
  | .hbm, ⟨107, _⟩ => ⟨S3328, .f32⟩
  | .hbm, ⟨108, _⟩ => ⟨S3328x1, .f32⟩
  | .hbm, ⟨109, _⟩ => ⟨S3328x1, .f32⟩
  | .hbm, ⟨110, _⟩ => ⟨S3328x1, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_call0_call0_c : Ref sig .tc := ⟨.hbm, 5, rfl⟩
abbrev main_call0_call0_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_call2_v0 : Ref sig .tc := ⟨.hbm, 59, rfl⟩
abbrev main_call2_cst : Ref sig .tc := ⟨.hbm, 60, rfl⟩
abbrev main_call2_c : Ref sig .tc := ⟨.hbm, 61, rfl⟩
abbrev main_call2_v1_0 : Ref sig .tc := ⟨.hbm, 62, rfl⟩
abbrev main_v42 : Ref sig .tc := ⟨.hbm, 63, rfl⟩
abbrev main_call3_v0 : Ref sig .tc := ⟨.hbm, 64, rfl⟩
abbrev main_call3_cst : Ref sig .tc := ⟨.hbm, 65, rfl⟩
abbrev main_call3_v1 : Ref sig .tc := ⟨.hbm, 66, rfl⟩
abbrev main_call3_v2 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_8 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_9 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_10 : Ref sig .tc := ⟨.hbm, 93, rfl⟩
abbrev main_call4_v0 : Ref sig .tc := ⟨.hbm, 94, rfl⟩
abbrev main_call4_v1 : Ref sig .tc := ⟨.hbm, 95, rfl⟩
abbrev main_v66 : Ref sig .tc := ⟨.hbm, 96, rfl⟩
abbrev main_cst_11 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_12 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_13 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_14 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_cst_16 : Ref sig .tc := ⟨.hbm, 116, rfl⟩

abbrev nD : Nat := 1
abbrev τ : Topo := Topo.v7x

variable {F : FTy → Type} [FloatOps F]
-- ==== Proof.Word.Val.FoundD.lean ====
/- The values found by running the kernel body at point 7 are the plain functions of the blocks it reads. -/
module

public import proofs.«01_k».proof.Proof.Word.Run.CaseD
public import proofs.«01_k».proof.Proof.Word.Val.Loads

@[expose] public section

set_option maxRecDepth 16384

noncomputable section

namespace Cert.Kernel.Val

open Cert.Kernel Cert.Kernel.Gen Cert.Kernel.Run
open Idealize.ShloMosaic Idealize.ShloMosaic.TcCoe

variable {F : FTy → Type} [FloatOps F]

/-- What is stored in output block 4. -/
theorem found_D4 (c : Dev nD) (i : grid0.Coords)
    (arg1 : Memref sig .tc .vmem S1024x1 .i32) (harg1 : arg1.IsWhole) (arg2 : Memref sig .tc .vmem S1024x256 .bf16) (harg2 : arg2.IsWhole)
    (arg3 : Memref sig .tc .vmem S3328x256 .bf16) (harg3 : arg3.IsWhole) (arg4 : Memref sig .tc .vmem S3328x256 .f32) (harg4 : arg4.IsWhole)
    (arg5 : Memref sig .tc .vmem S1024x256 .f32) (harg5 : arg5.IsWhole) (arg6 : Memref sig .tc .vmem S1024x1 .i32) (harg6 : arg6.IsWhole)
    (arg7 : Memref sig .tc .smem S1x1 .f32) (harg7 : arg7.IsWhole)
    (hc0 : ¬cond0_0 i) (hc1 : ¬cond0_1 i) (hc2 : ¬cond0_2 i)
    (x0 : Vec F S1024x1 .i32) (x1 : Vec F S1024x256 .bf16) (x2 : Vec F S3328x256 .bf16) (x3 : Vec F S3328x256 .f32) (xo6 : Vec F S1x1 .f32) :
    (kernelRun0_D c i arg1 harg1 arg2 harg2 arg3 harg3 arg4 harg4 arg5 harg5 arg6 harg6 arg7 harg7 hc0 hc1 hc2 x0 x1 x2 x3 xo6).1
      = [⟨Rect.unit (s := S1024x256) ![0, 0] S1024x256.size inb_S1024x256_S1024x256_0_0, quantBlk x0 x1 x2⟩] :=
  (by sl_kernel_rfl : (kernelRun0_D c i arg1 harg1 arg2 harg2 arg3 harg3 arg4 harg4 arg5 harg5 arg6 harg6 arg7 harg7 hc0 hc1 hc2 x0 x1 x2 x3 xo6).1 = [⟨Rect.unit (s := S1024x256) ![0, 0] S1024x256.size inb_S1024x256_S1024x256_0_0, quantBlk (shapeCast S1024x1 (arg1.view.readAt (Elt F) (Rect.unit (s := S1024x1) ![0, 0] S1024x1.size inb_S1024x1_S1024x1_0_0).toLoadRect (harg1.unread x0)) shapeCasts_S1024x1_S1024x1) (shapeCast S1024x256 (arg2.view.readAt (Elt F) (Rect.unit (s := S1024x256) ![0, 0] S1024x256.size inb_S1024x256_S1024x256_0_0).toLoadRect (harg2.unread x1)) shapeCasts_S1024x256_S1024x256) (shapeCast S3328x256 (arg3.view.readAt (Elt F) (Rect.unit (s := S3328x256) ![0, 0] S3328x256.size inb_S3328x256_S3328x256_0_0).toLoadRect (harg3.unread x2)) shapeCasts_S3328x256_S3328x256)⟩]).trans
    (by
      have e0 : (shapeCast S1024x1 (arg1.view.readAt (Elt F) (Rect.unit (s := S1024x1) ![0, 0] S1024x1.size inb_S1024x1_S1024x1_0_0).toLoadRect (harg1.unread x0)) shapeCasts_S1024x1_S1024x1) = x0 := (shapeCast_self _ _).trans (load_whole arg1 harg1 x0 _)
      have e1 : (shapeCast S1024x256 (arg2.view.readAt (Elt F) (Rect.unit (s := S1024x256) ![0, 0] S1024x256.size inb_S1024x256_S1024x256_0_0).toLoadRect (harg2.unread x1)) shapeCasts_S1024x256_S1024x256) = x1 := (shapeCast_self _ _).trans (load_whole arg2 harg2 x1 _)
      have e2 : (shapeCast S3328x256 (arg3.view.readAt (Elt F) (Rect.unit (s := S3328x256) ![0, 0] S3328x256.size inb_S3328x256_S3328x256_0_0).toLoadRect (harg3.unread x2)) shapeCasts_S3328x256_S3328x256) = x2 := (shapeCast_self _ _).trans (load_whole arg3 harg3 x2 _)
      rw [e0, e1, e2])

/-- What is stored in output block 5. -/
theorem found_D5 (c : Dev nD) (i : grid0.Coords)
    (arg1 : Memref sig .tc .vmem S1024x1 .i32) (harg1 : arg1.IsWhole) (arg2 : Memref sig .tc .vmem S1024x256 .bf16) (harg2 : arg2.IsWhole)
    (arg3 : Memref sig .tc .vmem S3328x256 .bf16) (harg3 : arg3.IsWhole) (arg4 : Memref sig .tc .vmem S3328x256 .f32) (harg4 : arg4.IsWhole)
    (arg5 : Memref sig .tc .vmem S1024x256 .f32) (harg5 : arg5.IsWhole) (arg6 : Memref sig .tc .vmem S1024x1 .i32) (harg6 : arg6.IsWhole)
    (arg7 : Memref sig .tc .smem S1x1 .f32) (harg7 : arg7.IsWhole)
    (hc0 : ¬cond0_0 i) (hc1 : ¬cond0_1 i) (hc2 : ¬cond0_2 i)
    (x0 : Vec F S1024x1 .i32) (x1 : Vec F S1024x256 .bf16) (x2 : Vec F S3328x256 .bf16) (x3 : Vec F S3328x256 .f32) (xo6 : Vec F S1x1 .f32) :
    (kernelRun0_D c i arg1 harg1 arg2 harg2 arg3 harg3 arg4 harg4 arg5 harg5 arg6 harg6 arg7 harg7 hc0 hc1 hc2 x0 x1 x2 x3 xo6).2.1
      = [⟨Rect.unit (s := S1024x1) ![0, 0] S1024x1.size inb_S1024x1_S1024x1_0_0, indexBlk x0 x1 x2⟩] :=
  (by sl_kernel_rfl : (kernelRun0_D c i arg1 harg1 arg2 harg2 arg3 harg3 arg4 harg4 arg5 harg5 arg6 harg6 arg7 harg7 hc0 hc1 hc2 x0 x1 x2 x3 xo6).2.1 = [⟨Rect.unit (s := S1024x1) ![0, 0] S1024x1.size inb_S1024x1_S1024x1_0_0, indexBlk (shapeCast S1024x1 (arg1.view.readAt (Elt F) (Rect.unit (s := S1024x1) ![0, 0] S1024x1.size inb_S1024x1_S1024x1_0_0).toLoadRect (harg1.unread x0)) shapeCasts_S1024x1_S1024x1) (shapeCast S1024x256 (arg2.view.readAt (Elt F) (Rect.unit (s := S1024x256) ![0, 0] S1024x256.size inb_S1024x256_S1024x256_0_0).toLoadRect (harg2.unread x1)) shapeCasts_S1024x256_S1024x256) (shapeCast S3328x256 (arg3.view.readAt (Elt F) (Rect.unit (s := S3328x256) ![0, 0] S3328x256.size inb_S3328x256_S3328x256_0_0).toLoadRect (harg3.unread x2)) shapeCasts_S3328x256_S3328x256)⟩]).trans
    (by
      have e0 : (shapeCast S1024x1 (arg1.view.readAt (Elt F) (Rect.unit (s := S1024x1) ![0, 0] S1024x1.size inb_S1024x1_S1024x1_0_0).toLoadRect (harg1.unread x0)) shapeCasts_S1024x1_S1024x1) = x0 := (shapeCast_self _ _).trans (load_whole arg1 harg1 x0 _)
      have e1 : (shapeCast S1024x256 (arg2.view.readAt (Elt F) (Rect.unit (s := S1024x256) ![0, 0] S1024x256.size inb_S1024x256_S1024x256_0_0).toLoadRect (harg2.unread x1)) shapeCasts_S1024x256_S1024x256) = x1 := (shapeCast_self _ _).trans (load_whole arg2 harg2 x1 _)
      have e2 : (shapeCast S3328x256 (arg3.view.readAt (Elt F) (Rect.unit (s := S3328x256) ![0, 0] S3328x256.size inb_S3328x256_S3328x256_0_0).toLoadRect (harg3.unread x2)) shapeCasts_S3328x256_S3328x256) = x2 := (shapeCast_self _ _).trans (load_whole arg3 harg3 x2 _)
      rw [e0, e1, e2])

end Cert.Kernel.Val

end
-- ==== Proof.Run.Kit.lean ====
/- When each branch of the kernel body is taken, and the buffers a grid point works on. -/
module

public import proofs.«01_k».proof.Proof.Gen.KernelIdeal.Frame
public import proofs.«01_k».proof.Proof.Gen.KernelIdeal.Skeleton

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first branch: the accumulator is cleared. -/
abbrev cond0_0 (i : grid0.Coords) : Prop := (Scalar.cmpi .ne (Scalar.extui (Scalar.cmpi .eq (BitVec.ofNat 32 (i 0).val) 0#32)) 0#32) = 1#1
/-- It is taken at the first point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The second branch: the even block of the loss. -/
abbrev cond0_1 (i : grid0.Coords) : Prop := k0_cond2 i = 1#1
/-- It is taken before point 7. -/
theorem hcond0_1 : ∀ t : Fin cfg0.N, cond0_1 (grid0.coords t) ↔ t.val < 7 :=
  (by decide +kernel : ∀ t : Fin grid0.N, cond0_1 (grid0.coords t) ↔ t.val < 7)

/-- The third branch: the odd block of the loss. -/
abbrev cond0_2 (i : grid0.Coords) : Prop := k0_cond3 i = 1#1
/-- It is taken before point 6. -/
theorem hcond0_2 : ∀ t : Fin cfg0.N, cond0_2 (grid0.coords t) ↔ t.val < 6 :=
  (by decide +kernel : ∀ t : Fin grid0.N, cond0_2 (grid0.coords t) ↔ t.val < 6)

/-- A view of each output block through which its contents are read. -/
abbrev VO0_4 : View sig .tc .vmem S1024x256 .f32 := (Memref.whole cc0_stg4_0 : Memref sig .tc .vmem S1024x256 .f32).view
abbrev VO0_5 : View sig .tc .vmem S1024x1 .i32 := (Memref.whole cc0_stg5_0 : Memref sig .tc .vmem S1024x1 .i32).view
abbrev VO0_6 : View sig .tc .smem S1x1 .f32 := (Memref.whole cc0_stg6_0 : Memref sig .tc .smem S1x1 .f32).view
/-- The staging memref of each window at a point, and that it is whole. -/
abbrev ms0_0 (t : Fin cfg0.N) : Memref sig .tc .vmem S1024x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3328x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3328x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S1x1 .f32 := win0_6.stage (cfg0.slots t 6)
abbrev hs0_6 (t : Fin cfg0.N) : (ms0_6 t).IsWhole := hstage0_6 ((cfg0.slots t 6).cast nbuf0_6)

end Cert.KernelIdeal.Run

end
-- ==== Proof.Run.CaseA.lean ====
/- The kernel body run at the first point: the accumulator is cleared, then two blocks of the loss are added. -/
module

public import proofs.«01_k».proof.Proof.Run.Kit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body run at the first point: the accumulator is cleared, then two blocks of the loss are added. The lists are what its stores leave in
    each output block, found by running it. -/
noncomputable def kernelRun0_A (c : Dev nD) (i : grid0.Coords)
    (arg1 : Memref sig .tc .vmem S1024x1 .i32) (harg1 : arg1.IsWhole) (arg2 : Memref sig .tc .vmem S1024x256 .bf16) (harg2 : arg2.IsWhole)
    (arg3 : Memref sig .tc .vmem S3328x256 .bf16) (harg3 : arg3.IsWhole) (arg4 : Memref sig .tc .vmem S3328x256 .f32) (harg4 : arg4.IsWhole)
    (arg5 : Memref sig .tc .vmem S1024x256 .f32) (harg5 : arg5.IsWhole) (arg6 : Memref sig .tc .vmem S1024x1 .i32) (harg6 : arg6.IsWhole)
    (arg7 : Memref sig .tc .smem S1x1 .f32) (harg7 : arg7.IsWhole)
    (hc0 : cond0_0 i) (hc1 : cond0_1 i) (hc2 : cond0_2 i)
    (x0 : Vec F S1024x1 .i32) (x1 : Vec F S1024x256 .bf16) (x2 : Vec F S3328x256 .bf16) (x3 : Vec F S3328x256 .f32) :
    Σ' (L4 : List (View.Piece (Elt F) S1024x256 .f32)), Σ' (L5 : List (View.Piece (Elt F) S1024x1 .i32)), { L6 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
              ∗ (∃ f, arg5.view.loc (c : Thread nD τ) ↦[arg5.view.set]{fullShare} arg5.view.writes (Elt F) f L4)
              ∗ (∃ f, arg6.view.loc (c : Thread nD τ) ↦[arg6.view.set]{fullShare} arg6.view.writes (Elt F) f L5)
              ∗ (∃ f, arg7.view.loc (c : Thread nD τ) ↦[arg7.view.set]{fullShare} arg7.view.writes (Elt F) f L6)) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, ?_, ?_, fun E K => ?run⟩
  case run =>
    simp only [cc0__fused_kernel_eq_skeleton]; unfold cc0__fused_kernel_skel
    simp only [k0_part52_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part2_eq_skeleton, k0_part1_eq_skeleton, k0_part4_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

end Cert.KernelIdeal.Run

end
-- ==== Proof.Val.Body.lean ====
/- What one grid point of the kernel computes, written as a few plain functions of the blocks it reads. -/
module

public import proofs.«01_k».proof.Proof.Gen.KernelIdeal.Skeleton
public import Idealize.ShloMosaic.Lib.Pipeline.Value

@[expose] public section

set_option maxRecDepth 16384

noncomputable section

namespace Cert.KernelIdeal.Val

open Cert.KernelIdeal Cert.KernelIdeal.Gen
open Idealize.ShloMosaic Idealize.ShloMosaic.TcCoe

variable {F : FTy → Type} [FloatOps F] [Named F]

/-- Rows `128 k … 128 k + 127` of the column of types. -/
theorem slq (k : ℕ) (hk : k < 8) : S1024x1.Slices ![128 * k, 0] S128x1 :=
  ⟨rfl, fun a => match a with
    | ⟨0, _⟩ => (by show 128 * k + 128 ≤ 1024; omega)
    | ⟨1, _⟩ => (by show 0 + 1 ≤ 1; omega)⟩

/-- The tile of the logits at row block `k` and type `n`. -/
theorem sll (k n : ℕ) (hk : k < 8) (hn : n < 26) : S1024x3328.Slices ![128 * k, 128 * n] S128x128 :=
  ⟨rfl, fun a => match a with
    | ⟨0, _⟩ => (by show 128 * k + 128 ≤ 1024; omega)
    | ⟨1, _⟩ => (by show 128 * n + 128 ≤ 3328; omega)⟩

/-- Rows `128 k … 128 k + 127` of the weights. -/
theorem sle (k : ℕ) (hk : k < 8) : S1024x128.Slices ![128 * k, 0] S128x128 :=
  ⟨rfl, fun a => match a with
    | ⟨0, _⟩ => (by show 128 * k + 128 ≤ 1024; omega)
    | ⟨1, _⟩ => (by show 0 + 128 ≤ 128; omega)⟩

/-- Where, in row block `k`, the type is `n`. -/
def tyMask (q : IVec S1024x1 32) (k : ℕ) (hk : k < 8) (n : ℕ) : IVec S128x128 1 :=
  broadcastTo S128x128 (shapeCast S128x1 (cmpi .eq (extractStridedSlice S128x1 ![128 * k, 0] q (slq k hk))
    (broadcast S128x1 (BitVec.ofNat 32 n))) shapeCasts_S128x1_S128x1) broadcasts_S128x1_S128x128

/-- The logits of row block `k` after the first `n` types have been looked at: zero where the row's type is none of them. -/
def pick (q : IVec S1024x1 32) (L : FVec F S1024x3328 .f32) (k : ℕ) (hk : k < 8) : (n : ℕ) → n ≤ 26 → FVec F S128x128 .f32
  | 0, _ => broadcast S128x128 (FloatOps.ofBits .f32 0x00000000#32)
  | n + 1, h => select (tyMask q k hk n) (extractStridedSlice S128x128 ![128 * k, 128 * n] L (sll k n hk h)) (pick q L k hk n (Nat.le_of_succ_le h))

/-- The products of the block's rows with every row of the table. -/
def logits (x : FVec F S1024x256 .bf16) (e : FVec F S3328x256 .bf16) : FVec F S1024x3328 .f32 :=
  matmul dot_S1024x256_S3328x256_S1024x3328_1_1_0_0_n_n none x e (constant S1024x3328 .f32 0x00000000#32)

/-- Each row's logits against the 128 rows of its own type. -/
def lsel (q : IVec S1024x1 32) (L : FVec F S1024x3328 .f32) : FVec F S1024x128 .f32 :=
  concatenate S1024x128 0 (List.ofFn fun k : Fin 8 => ⟨S128x128, pick q L k.val k.isLt 26 (Nat.le_refl 26)⟩)
    concatenates_S128x128_S128x128_S128x128_S128x128_S128x128_S128x128_S128x128_S128x128_S1024x128_d0

/-- Each row's largest logit, on the whole row. -/
def rmax (l : FVec F S1024x128 .f32) : FVec F S1024x128 .f32 :=
  broadcastTo S1024x128 (shapeCast S1024x1 (multiReduction .maximumf [1] S1024 l 0xFF800000#32 reduces_S1024x128_S1024 (.inl rfl) rfl)
    shapeCasts_S1024_S1024x1) broadcasts_S1024x1_S1024x128

/-- The weights before they are divided by their sum. -/
def wts (l : FVec F S1024x128 .f32) : FVec F S1024x128 .f32 := exp (subf l (rmax l))

/-- The sum of a row's weights. -/
def wsum (l : FVec F S1024x128 .f32) : FVec F S1024x1 .f32 :=
  shapeCast S1024x1 (multiReduction .add [1] S1024 (wts l) 0x00000000#32 reduces_S1024x128_S1024 (.inl rfl) rfl) shapeCasts_S1024_S1024x1

/-- Row block `k` of the weights laid out over the whole table: zero off the row's own type. -/
def laidRow (q : IVec S1024x1 32) (w : FVec F S1024x128 .bf16) (k : ℕ) (hk : k < 8) : FVec F S128x3328 .bf16 :=
  concatenate S128x3328 1 (List.ofFn fun n : Fin 26 => ⟨S128x128, select (tyMask q k hk n.val)
      (extractStridedSlice S128x128 ![128 * k, 0] w (sle k hk)) (broadcast S128x128 (FloatOps.ofBits .bf16 0x0000#16))⟩)
    concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x3328_d1

/-- The weights laid out over the whole table. -/
def laid (q : IVec S1024x1 32) (w : FVec F S1024x128 .bf16) : FVec F S1024x3328 .bf16 :=
  concatenate S1024x3328 0 (List.ofFn fun k : Fin 8 => ⟨S128x3328, laidRow q w k.val k.isLt⟩)
    concatenates_S128x3328_S128x3328_S128x3328_S128x3328_S128x3328_S128x3328_S128x3328_S128x3328_S1024x3328_d0

/-- The first column at which a row's logit is the largest. -/
def firstMax (l : FVec F S1024x128 .f32) : IVec S1024x1 32 :=
  shapeCast S1024x1 (multiReductionI .minsi [1] S1024 (select (cmpf .oeq l (rmax l)) (iota .tc S1024x128 32 [1] iota_S1024x128_d1_w32)
    (broadcast S1024x128 128#32)) 2147483647#32 reduces_S1024x128_S1024 rfl) shapeCasts_S1024_S1024x1

/-- The quantized block from the logits. -/
def quantOf (q : IVec S1024x1 32) (l : FVec F S1024x128 .f32) (e : FVec F S3328x256 .bf16) : FVec F S1024x256 .f32 :=
  divf (matmul dot_S1024x3328_S3328x256_S1024x256_1_0_0_1_n_n none (laid q (truncf .bf16 (wts l) bitsLt_bf16_f32)) e
    (constant S1024x256 .f32 0x00000000#32)) (broadcastTo S1024x256 (wsum l) broadcasts_S1024x1_S1024x256)

/-- The block of indices from the logits. -/
def indexOf (q : IVec S1024x1 32) (l : FVec F S1024x128 .f32) : IVec S1024x1 32 :=
  addi (muli q (broadcast S1024x1 128#32)) (firstMax l)

/-- The quantized block a grid point writes. -/
def quantBlk (q : IVec S1024x1 32) (x : FVec F S1024x256 .bf16) (e : FVec F S3328x256 .bf16) : FVec F S1024x256 .f32 :=
  quantOf q (lsel q (logits x e)) e

/-- The block of indices a grid point writes. -/
def indexBlk (q : IVec S1024x1 32) (x : FVec F S1024x256 .bf16) (e : FVec F S3328x256 .bf16) : IVec S1024x1 32 :=
  indexOf q (lsel q (logits x e))

/-- One block of 256 rows of the table added into the loss. -/
def lossStep (E : Vec F S3328x256 .f32) (b : Vec F S256x256 .f32) (a : F .f32) : F .f32 :=
  k0_pay6 (k0_pay1 E b) (k0_pay2 b) (iota .tc S256x256 32 [0] iota_S256x256_d0_w32) (iota .tc S256x256 32 [1] iota_S256x256_d1_w32)
    k0_pay3 128#32 k0_pay4 k0_pay5 0#32 a

/-- Where block `j` of 256 rows lies in the table. -/
theorem blkIn (j : ℕ) (hj : j < 13) : ∀ a, (![256 * j, 0] : Fin 2 → ℕ) a + S256x256.size a ≤ S3328x256.size a :=
  fun a => match a with
    | ⟨0, _⟩ => (by show 256 * j + 256 ≤ 3328; omega)
    | ⟨1, _⟩ => (by show 0 + 256 ≤ 256; omega)

/-- Block `j` of 256 rows of the table. -/
def tabBlk (E : Vec F S3328x256 .f32) (j : ℕ) (hj : j < 13) : Vec F S256x256 .f32 :=
  View.ld (Val := Elt F) E (Rect.unit (s := S3328x256) ![256 * j, 0] S256x256.size (blkIn j hj))

/-- The loss after the first `n` blocks. -/
def lossSum (E : Vec F S3328x256 .f32) : (n : ℕ) → n ≤ 13 → F .f32
  | 0, _ => FloatOps.ofBits .f32 0x00000000#32
  | n + 1, h => lossStep E (tabBlk E n h) (lossSum E n (Nat.le_of_succ_le h))

end Cert.KernelIdeal.Val

end
-- ==== Proof.Val.Loads.lean ====
/- What the kernel body's loads read of a block whose contents are known. -/
module

public import proofs.«01_k».proof.Proof.Val.Body
public import Idealize.ShloMosaic.Lib.VecWindow
public import Idealize.ShloMosaic.Lib.Pipeline.FrameBody
public import Idealize.ShloMosaic.Lib.Pipeline.Value

@[expose] public section

set_option maxRecDepth 16384

noncomputable section

namespace Cert.KernelIdeal.Val

open Cert.KernelIdeal Cert.KernelIdeal.Gen
open Idealize.ShloMosaic Idealize.ShloMosaic.TcCoe

variable {F : FTy → Type}

/-- A load of a whole block reads the block. -/
theorem load_whole {sp : Space} {s : Shape} {e : EltTy} (a : Memref sig .tc sp s e) (ha : a.IsWhole) (x : Vec F s e) {off : Fin s.rank → ℕ}
    (inb : ∀ b, off b + s.size b ≤ s.size b) :
    a.view.readAt (Elt F) (Rect.unit off s.size inb).toLoadRect (ha.unread x) = x := by
  rw [View.readAt_full, ha.read_unread]

/-- A load of part of a block reads that part. -/
theorem load_part {sp : Space} {s : Shape} {e : EltTy} (a : Memref sig .tc sp s e) (ha : a.IsWhole) (x : Vec F s e) {off size : Fin s.rank → ℕ}
    (inb : ∀ b, off b + size b ≤ s.size b) :
    a.view.readAt (Elt F) (Rect.unit off size inb).toLoadRect (ha.unread x) = View.ld (Val := Elt F) x (Rect.unit off size inb) := by
  rw [View.readAt_eq_ld, ha.read_unread]

end Cert.KernelIdeal.Val

end
-- ==== Proof.Val.FoundA.lean ====
/- The values found by running the kernel body at point 0 are the plain functions of the blocks it reads. -/
module

public import proofs.«01_k».proof.Proof.Run.CaseA
public import proofs.«01_k».proof.Proof.Val.Loads

@[expose] public section

set_option maxRecDepth 16384

noncomputable section

namespace Cert.KernelIdeal.Val

open Cert.KernelIdeal Cert.KernelIdeal.Gen Cert.KernelIdeal.Run
open Idealize.ShloMosaic Idealize.ShloMosaic.TcCoe

variable {F : FTy → Type} [FloatOps F] [Named F]

/-- What is stored in output block 4. -/
theorem found_A4 (c : Dev nD) (i : grid0.Coords)
    (arg1 : Memref sig .tc .vmem S1024x1 .i32) (harg1 : arg1.IsWhole) (arg2 : Memref sig .tc .vmem S1024x256 .bf16) (harg2 : arg2.IsWhole)
    (arg3 : Memref sig .tc .vmem S3328x256 .bf16) (harg3 : arg3.IsWhole) (arg4 : Memref sig .tc .vmem S3328x256 .f32) (harg4 : arg4.IsWhole)
    (arg5 : Memref sig .tc .vmem S1024x256 .f32) (harg5 : arg5.IsWhole) (arg6 : Memref sig .tc .vmem S1024x1 .i32) (harg6 : arg6.IsWhole)
    (arg7 : Memref sig .tc .smem S1x1 .f32) (harg7 : arg7.IsWhole)
    (hc0 : cond0_0 i) (hc1 : cond0_1 i) (hc2 : cond0_2 i)
    (x0 : Vec F S1024x1 .i32) (x1 : Vec F S1024x256 .bf16) (x2 : Vec F S3328x256 .bf16) (x3 : Vec F S3328x256 .f32) :
    (kernelRun0_A c i arg1 harg1 arg2 harg2 arg3 harg3 arg4 harg4 arg5 harg5 arg6 harg6 arg7 harg7 hc0 hc1 hc2 x0 x1 x2 x3).1
      = [⟨Rect.unit (s := S1024x256) ![0, 0] S1024x256.size inb_S1024x256_S1024x256_0_0, quantBlk x0 x1 x2⟩] :=
  (by sl_kernel_rfl : (kernelRun0_A c i arg1 harg1 arg2 harg2 arg3 harg3 arg4 harg4 arg5 harg5 arg6 harg6 arg7 harg7 hc0 hc1 hc2 x0 x1 x2 x3).1 = [⟨Rect.unit (s := S1024x256) ![0, 0] S1024x256.size inb_S1024x256_S1024x256_0_0, quantBlk (shapeCast S1024x1 (arg1.view.readAt (Elt F) (Rect.unit (s := S1024x1) ![0, 0] S1024x1.size inb_S1024x1_S1024x1_0_0).toLoadRect (harg1.unread x0)) shapeCasts_S1024x1_S1024x1) (shapeCast S1024x256 (arg2.view.readAt (Elt F) (Rect.unit (s := S1024x256) ![0, 0] S1024x256.size inb_S1024x256_S1024x256_0_0).toLoadRect (harg2.unread x1)) shapeCasts_S1024x256_S1024x256) (shapeCast S3328x256 (arg3.view.readAt (Elt F) (Rect.unit (s := S3328x256) ![0, 0] S3328x256.size inb_S3328x256_S3328x256_0_0).toLoadRect (harg3.unread x2)) shapeCasts_S3328x256_S3328x256)⟩]).trans
    (by
      have e0 : (shapeCast S1024x1 (arg1.view.readAt (Elt F) (Rect.unit (s := S1024x1) ![0, 0] S1024x1.size inb_S1024x1_S1024x1_0_0).toLoadRect (harg1.unread x0)) shapeCasts_S1024x1_S1024x1) = x0 := (shapeCast_self _ _).trans (load_whole arg1 harg1 x0 _)
      have e1 : (shapeCast S1024x256 (arg2.view.readAt (Elt F) (Rect.unit (s := S1024x256) ![0, 0] S1024x256.size inb_S1024x256_S1024x256_0_0).toLoadRect (harg2.unread x1)) shapeCasts_S1024x256_S1024x256) = x1 := (shapeCast_self _ _).trans (load_whole arg2 harg2 x1 _)
      have e2 : (shapeCast S3328x256 (arg3.view.readAt (Elt F) (Rect.unit (s := S3328x256) ![0, 0] S3328x256.size inb_S3328x256_S3328x256_0_0).toLoadRect (harg3.unread x2)) shapeCasts_S3328x256_S3328x256) = x2 := (shapeCast_self _ _).trans (load_whole arg3 harg3 x2 _)
      rw [e0, e1, e2])

/-- What is stored in output block 5. -/
theorem found_A5 (c : Dev nD) (i : grid0.Coords)
    (arg1 : Memref sig .tc .vmem S1024x1 .i32) (harg1 : arg1.IsWhole) (arg2 : Memref sig .tc .vmem S1024x256 .bf16) (harg2 : arg2.IsWhole)
    (arg3 : Memref sig .tc .vmem S3328x256 .bf16) (harg3 : arg3.IsWhole) (arg4 : Memref sig .tc .vmem S3328x256 .f32) (harg4 : arg4.IsWhole)
    (arg5 : Memref sig .tc .vmem S1024x256 .f32) (harg5 : arg5.IsWhole) (arg6 : Memref sig .tc .vmem S1024x1 .i32) (harg6 : arg6.IsWhole)
    (arg7 : Memref sig .tc .smem S1x1 .f32) (harg7 : arg7.IsWhole)
    (hc0 : cond0_0 i) (hc1 : cond0_1 i) (hc2 : cond0_2 i)
    (x0 : Vec F S1024x1 .i32) (x1 : Vec F S1024x256 .bf16) (x2 : Vec F S3328x256 .bf16) (x3 : Vec F S3328x256 .f32) :
    (kernelRun0_A c i arg1 harg1 arg2 harg2 arg3 harg3 arg4 harg4 arg5 harg5 arg6 harg6 arg7 harg7 hc0 hc1 hc2 x0 x1 x2 x3).2.1
      = [⟨Rect.unit (s := S1024x1) ![0, 0] S1024x1.size inb_S1024x1_S1024x1_0_0, indexBlk x0 x1 x2⟩] :=
  (by sl_kernel_rfl : (kernelRun0_A c i arg1 harg1 arg2 harg2 arg3 harg3 arg4 harg4 arg5 harg5 arg6 harg6 arg7 harg7 hc0 hc1 hc2 x0 x1 x2 x3).2.1 = [⟨Rect.unit (s := S1024x1) ![0, 0] S1024x1.size inb_S1024x1_S1024x1_0_0, indexBlk (shapeCast S1024x1 (arg1.view.readAt (Elt F) (Rect.unit (s := S1024x1) ![0, 0] S1024x1.size inb_S1024x1_S1024x1_0_0).toLoadRect (harg1.unread x0)) shapeCasts_S1024x1_S1024x1) (shapeCast S1024x256 (arg2.view.readAt (Elt F) (Rect.unit (s := S1024x256) ![0, 0] S1024x256.size inb_S1024x256_S1024x256_0_0).toLoadRect (harg2.unread x1)) shapeCasts_S1024x256_S1024x256) (shapeCast S3328x256 (arg3.view.readAt (Elt F) (Rect.unit (s := S3328x256) ![0, 0] S3328x256.size inb_S3328x256_S3328x256_0_0).toLoadRect (harg3.unread x2)) shapeCasts_S3328x256_S3328x256)⟩]).trans
    (by
      have e0 : (shapeCast S1024x1 (arg1.view.readAt (Elt F) (Rect.unit (s := S1024x1) ![0, 0] S1024x1.size inb_S1024x1_S1024x1_0_0).toLoadRect (harg1.unread x0)) shapeCasts_S1024x1_S1024x1) = x0 := (shapeCast_self _ _).trans (load_whole arg1 harg1 x0 _)
      have e1 : (shapeCast S1024x256 (arg2.view.readAt (Elt F) (Rect.unit (s := S1024x256) ![0, 0] S1024x256.size inb_S1024x256_S1024x256_0_0).toLoadRect (harg2.unread x1)) shapeCasts_S1024x256_S1024x256) = x1 := (shapeCast_self _ _).trans (load_whole arg2 harg2 x1 _)
      have e2 : (shapeCast S3328x256 (arg3.view.readAt (Elt F) (Rect.unit (s := S3328x256) ![0, 0] S3328x256.size inb_S3328x256_S3328x256_0_0).toLoadRect (harg3.unread x2)) shapeCasts_S3328x256_S3328x256) = x2 := (shapeCast_self _ _).trans (load_whole arg3 harg3 x2 _)
      rw [e0, e1, e2])

/-- What is stored last in the accumulator. -/
theorem found_A6 (c : Dev nD) (i : grid0.Coords)
    (arg1 : Memref sig .tc .vmem S1024x1 .i32) (harg1 : arg1.IsWhole) (arg2 : Memref sig .tc .vmem S1024x256 .bf16) (harg2 : arg2.IsWhole)
    (arg3 : Memref sig .tc .vmem S3328x256 .bf16) (harg3 : arg3.IsWhole) (arg4 : Memref sig .tc .vmem S3328x256 .f32) (harg4 : arg4.IsWhole)
    (arg5 : Memref sig .tc .vmem S1024x256 .f32) (harg5 : arg5.IsWhole) (arg6 : Memref sig .tc .vmem S1024x1 .i32) (harg6 : arg6.IsWhole)
    (arg7 : Memref sig .tc .smem S1x1 .f32) (harg7 : arg7.IsWhole)
    (hc0 : cond0_0 i) (hc1 : cond0_1 i) (hc2 : cond0_2 i)
    (x0 : Vec F S1024x1 .i32) (x1 : Vec F S1024x256 .bf16) (x2 : Vec F S3328x256 .bf16) (x3 : Vec F S3328x256 .f32) :
    (kernelRun0_A c i arg1 harg1 arg2 harg2 arg3 harg3 arg4 harg4 arg5 harg5 arg6 harg6 arg7 harg7 hc0 hc1 hc2 x0 x1 x2 x3).2.2.1
      = ⟨Rect.unit (s := S1x1) ![0, 0] S1x1.size inb_S1x1_S1x1_0_0, fun _ => lossStep x3 (View.ld (Val := Elt F) x3 (Rect.unit (s := S3328x256) (k0_off2 i) S256x256.size (k0_off2_inb i hc2))) (lossStep x3 (View.ld (Val := Elt F) x3 (Rect.unit (s := S3328x256) (k0_off1 i) S256x256.size (k0_off1_inb i hc1))) (FloatOps.ofBits .f32 0x00000000#32))⟩ :: (kernelRun0_A c i arg1 harg1 arg2 harg2 arg3 harg3 arg4 harg4 arg5 harg5 arg6 harg6 arg7 harg7 hc0 hc1 hc2 x0 x1 x2 x3).2.2.1.tail :=
  (by sl_kernel_rfl : (kernelRun0_A c i arg1 harg1 arg2 harg2 arg3 harg3 arg4 harg4 arg5 harg5 arg6 harg6 arg7 harg7 hc0 hc1 hc2 x0 x1 x2 x3).2.2.1
      = ⟨Rect.unit (s := S1x1) ![0, 0] S1x1.size inb_S1x1_S1x1_0_0, fun _ => lossStep (arg4.view.readAt (Elt F) (Rect.unit (s := S3328x256) ![0, 0] S3328x256.size inb_S3328x256_S3328x256_0_0).toLoadRect (harg4.unread x3)) (arg4.view.readAt (Elt F) (Rect.unit (s := S3328x256) (k0_off2 i) S256x256.size (k0_off2_inb i hc2)).toLoadRect (harg4.unread x3)) (lossStep (arg4.view.readAt (Elt F) (Rect.unit (s := S3328x256) ![0, 0] S3328x256.size inb_S3328x256_S3328x256_0_0).toLoadRect (harg4.unread x3)) (arg4.view.readAt (Elt F) (Rect.unit (s := S3328x256) (k0_off1 i) S256x256.size (k0_off1_inb i hc1)).toLoadRect (harg4.unread x3)) (FloatOps.ofBits .f32 0x00000000#32))⟩ :: (kernelRun0_A c i arg1 harg1 arg2 harg2 arg3 harg3 arg4 harg4 arg5 harg5 arg6 harg6 arg7 harg7 hc0 hc1 hc2 x0 x1 x2 x3).2.2.1.tail).trans
    (by rw [load_whole arg4 harg4 x3, load_part arg4 harg4 x3, load_part arg4 harg4 x3])

end Cert.KernelIdeal.Val

end
-- ==== Proof.Run.CaseB.lean ====
/- The kernel body run at points 1 to 5: two blocks of the loss are added. -/
module

public import proofs.«01_k».proof.Proof.Run.Kit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body run at points 1 to 5: two blocks of the loss are added. The lists are what its stores leave in
    each output block, found by running it. -/
noncomputable def kernelRun0_B (c : Dev nD) (i : grid0.Coords)
    (arg1 : Memref sig .tc .vmem S1024x1 .i32) (harg1 : arg1.IsWhole) (arg2 : Memref sig .tc .vmem S1024x256 .bf16) (harg2 : arg2.IsWhole)
    (arg3 : Memref sig .tc .vmem S3328x256 .bf16) (harg3 : arg3.IsWhole) (arg4 : Memref sig .tc .vmem S3328x256 .f32) (harg4 : arg4.IsWhole)
    (arg5 : Memref sig .tc .vmem S1024x256 .f32) (harg5 : arg5.IsWhole) (arg6 : Memref sig .tc .vmem S1024x1 .i32) (harg6 : arg6.IsWhole)
    (arg7 : Memref sig .tc .smem S1x1 .f32) (harg7 : arg7.IsWhole)
    (hc0 : ¬cond0_0 i) (hc1 : cond0_1 i) (hc2 : cond0_2 i)
    (x0 : Vec F S1024x1 .i32) (x1 : Vec F S1024x256 .bf16) (x2 : Vec F S3328x256 .bf16) (x3 : Vec F S3328x256 .f32) (xo6 : Vec F S1x1 .f32) :
    Σ' (L4 : List (View.Piece (Elt F) S1024x256 .f32)), Σ' (L5 : List (View.Piece (Elt F) S1024x1 .i32)), { L6 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
              ∗ (∃ f, arg5.view.loc (c : Thread nD τ) ↦[arg5.view.set]{fullShare} arg5.view.writes (Elt F) f L4)
              ∗ (∃ f, arg6.view.loc (c : Thread nD τ) ↦[arg6.view.set]{fullShare} arg6.view.writes (Elt F) f L5)
              ∗ (∃ f, arg7.view.loc (c : Thread nD τ) ↦[arg7.view.set]{fullShare} arg7.view.writes (Elt F) f L6)) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, ?_, ?_, fun E K => ?run⟩
  case run =>
    simp only [cc0__fused_kernel_eq_skeleton]; unfold cc0__fused_kernel_skel
    simp only [k0_part52_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part2_eq_skeleton, k0_part1_eq_skeleton, k0_part4_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3; obtain rfl := harg7.eq_unread hf6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

end Cert.KernelIdeal.Run

end
-- ==== Proof.Val.FoundB.lean ====
/- The values found by running the kernel body at points 1 to 5 are the plain functions of the blocks it reads. -/
module

public import proofs.«01_k».proof.Proof.Run.CaseB
public import proofs.«01_k».proof.Proof.Val.Loads

@[expose] public section

set_option maxRecDepth 16384

noncomputable section

namespace Cert.KernelIdeal.Val

open Cert.KernelIdeal Cert.KernelIdeal.Gen Cert.KernelIdeal.Run
open Idealize.ShloMosaic Idealize.ShloMosaic.TcCoe

variable {F : FTy → Type} [FloatOps F] [Named F]

/-- What is stored in output block 4. -/
theorem found_B4 (c : Dev nD) (i : grid0.Coords)
    (arg1 : Memref sig .tc .vmem S1024x1 .i32) (harg1 : arg1.IsWhole) (arg2 : Memref sig .tc .vmem S1024x256 .bf16) (harg2 : arg2.IsWhole)
    (arg3 : Memref sig .tc .vmem S3328x256 .bf16) (harg3 : arg3.IsWhole) (arg4 : Memref sig .tc .vmem S3328x256 .f32) (harg4 : arg4.IsWhole)
    (arg5 : Memref sig .tc .vmem S1024x256 .f32) (harg5 : arg5.IsWhole) (arg6 : Memref sig .tc .vmem S1024x1 .i32) (harg6 : arg6.IsWhole)
    (arg7 : Memref sig .tc .smem S1x1 .f32) (harg7 : arg7.IsWhole)
    (hc0 : ¬cond0_0 i) (hc1 : cond0_1 i) (hc2 : cond0_2 i)
    (x0 : Vec F S1024x1 .i32) (x1 : Vec F S1024x256 .bf16) (x2 : Vec F S3328x256 .bf16) (x3 : Vec F S3328x256 .f32) (xo6 : Vec F S1x1 .f32) :
    (kernelRun0_B c i arg1 harg1 arg2 harg2 arg3 harg3 arg4 harg4 arg5 harg5 arg6 harg6 arg7 harg7 hc0 hc1 hc2 x0 x1 x2 x3 xo6).1
      = [⟨Rect.unit (s := S1024x256) ![0, 0] S1024x256.size inb_S1024x256_S1024x256_0_0, quantBlk x0 x1 x2⟩] :=
  (by sl_kernel_rfl : (kernelRun0_B c i arg1 harg1 arg2 harg2 arg3 harg3 arg4 harg4 arg5 harg5 arg6 harg6 arg7 harg7 hc0 hc1 hc2 x0 x1 x2 x3 xo6).1 = [⟨Rect.unit (s := S1024x256) ![0, 0] S1024x256.size inb_S1024x256_S1024x256_0_0, quantBlk (shapeCast S1024x1 (arg1.view.readAt (Elt F) (Rect.unit (s := S1024x1) ![0, 0] S1024x1.size inb_S1024x1_S1024x1_0_0).toLoadRect (harg1.unread x0)) shapeCasts_S1024x1_S1024x1) (shapeCast S1024x256 (arg2.view.readAt (Elt F) (Rect.unit (s := S1024x256) ![0, 0] S1024x256.size inb_S1024x256_S1024x256_0_0).toLoadRect (harg2.unread x1)) shapeCasts_S1024x256_S1024x256) (shapeCast S3328x256 (arg3.view.readAt (Elt F) (Rect.unit (s := S3328x256) ![0, 0] S3328x256.size inb_S3328x256_S3328x256_0_0).toLoadRect (harg3.unread x2)) shapeCasts_S3328x256_S3328x256)⟩]).trans
    (by
      have e0 : (shapeCast S1024x1 (arg1.view.readAt (Elt F) (Rect.unit (s := S1024x1) ![0, 0] S1024x1.size inb_S1024x1_S1024x1_0_0).toLoadRect (harg1.unread x0)) shapeCasts_S1024x1_S1024x1) = x0 := (shapeCast_self _ _).trans (load_whole arg1 harg1 x0 _)
      have e1 : (shapeCast S1024x256 (arg2.view.readAt (Elt F) (Rect.unit (s := S1024x256) ![0, 0] S1024x256.size inb_S1024x256_S1024x256_0_0).toLoadRect (harg2.unread x1)) shapeCasts_S1024x256_S1024x256) = x1 := (shapeCast_self _ _).trans (load_whole arg2 harg2 x1 _)
      have e2 : (shapeCast S3328x256 (arg3.view.readAt (Elt F) (Rect.unit (s := S3328x256) ![0, 0] S3328x256.size inb_S3328x256_S3328x256_0_0).toLoadRect (harg3.unread x2)) shapeCasts_S3328x256_S3328x256) = x2 := (shapeCast_self _ _).trans (load_whole arg3 harg3 x2 _)
      rw [e0, e1, e2])

/-- What is stored in output block 5. -/
theorem found_B5 (c : Dev nD) (i : grid0.Coords)
    (arg1 : Memref sig .tc .vmem S1024x1 .i32) (harg1 : arg1.IsWhole) (arg2 : Memref sig .tc .vmem S1024x256 .bf16) (harg2 : arg2.IsWhole)
    (arg3 : Memref sig .tc .vmem S3328x256 .bf16) (harg3 : arg3.IsWhole) (arg4 : Memref sig .tc .vmem S3328x256 .f32) (harg4 : arg4.IsWhole)
    (arg5 : Memref sig .tc .vmem S1024x256 .f32) (harg5 : arg5.IsWhole) (arg6 : Memref sig .tc .vmem S1024x1 .i32) (harg6 : arg6.IsWhole)
    (arg7 : Memref sig .tc .smem S1x1 .f32) (harg7 : arg7.IsWhole)
    (hc0 : ¬cond0_0 i) (hc1 : cond0_1 i) (hc2 : cond0_2 i)
    (x0 : Vec F S1024x1 .i32) (x1 : Vec F S1024x256 .bf16) (x2 : Vec F S3328x256 .bf16) (x3 : Vec F S3328x256 .f32) (xo6 : Vec F S1x1 .f32) :
    (kernelRun0_B c i arg1 harg1 arg2 harg2 arg3 harg3 arg4 harg4 arg5 harg5 arg6 harg6 arg7 harg7 hc0 hc1 hc2 x0 x1 x2 x3 xo6).2.1
      = [⟨Rect.unit (s := S1024x1) ![0, 0] S1024x1.size inb_S1024x1_S1024x1_0_0, indexBlk x0 x1 x2⟩] :=
  (by sl_kernel_rfl : (kernelRun0_B c i arg1 harg1 arg2 harg2 arg3 harg3 arg4 harg4 arg5 harg5 arg6 harg6 arg7 harg7 hc0 hc1 hc2 x0 x1 x2 x3 xo6).2.1 = [⟨Rect.unit (s := S1024x1) ![0, 0] S1024x1.size inb_S1024x1_S1024x1_0_0, indexBlk (shapeCast S1024x1 (arg1.view.readAt (Elt F) (Rect.unit (s := S1024x1) ![0, 0] S1024x1.size inb_S1024x1_S1024x1_0_0).toLoadRect (harg1.unread x0)) shapeCasts_S1024x1_S1024x1) (shapeCast S1024x256 (arg2.view.readAt (Elt F) (Rect.unit (s := S1024x256) ![0, 0] S1024x256.size inb_S1024x256_S1024x256_0_0).toLoadRect (harg2.unread x1)) shapeCasts_S1024x256_S1024x256) (shapeCast S3328x256 (arg3.view.readAt (Elt F) (Rect.unit (s := S3328x256) ![0, 0] S3328x256.size inb_S3328x256_S3328x256_0_0).toLoadRect (harg3.unread x2)) shapeCasts_S3328x256_S3328x256)⟩]).trans
    (by
      have e0 : (shapeCast S1024x1 (arg1.view.readAt (Elt F) (Rect.unit (s := S1024x1) ![0, 0] S1024x1.size inb_S1024x1_S1024x1_0_0).toLoadRect (harg1.unread x0)) shapeCasts_S1024x1_S1024x1) = x0 := (shapeCast_self _ _).trans (load_whole arg1 harg1 x0 _)
      have e1 : (shapeCast S1024x256 (arg2.view.readAt (Elt F) (Rect.unit (s := S1024x256) ![0, 0] S1024x256.size inb_S1024x256_S1024x256_0_0).toLoadRect (harg2.unread x1)) shapeCasts_S1024x256_S1024x256) = x1 := (shapeCast_self _ _).trans (load_whole arg2 harg2 x1 _)
      have e2 : (shapeCast S3328x256 (arg3.view.readAt (Elt F) (Rect.unit (s := S3328x256) ![0, 0] S3328x256.size inb_S3328x256_S3328x256_0_0).toLoadRect (harg3.unread x2)) shapeCasts_S3328x256_S3328x256) = x2 := (shapeCast_self _ _).trans (load_whole arg3 harg3 x2 _)
      rw [e0, e1, e2])

/-- What is stored last in the accumulator. -/
theorem found_B6 (c : Dev nD) (i : grid0.Coords)
    (arg1 : Memref sig .tc .vmem S1024x1 .i32) (harg1 : arg1.IsWhole) (arg2 : Memref sig .tc .vmem S1024x256 .bf16) (harg2 : arg2.IsWhole)
    (arg3 : Memref sig .tc .vmem S3328x256 .bf16) (harg3 : arg3.IsWhole) (arg4 : Memref sig .tc .vmem S3328x256 .f32) (harg4 : arg4.IsWhole)
    (arg5 : Memref sig .tc .vmem S1024x256 .f32) (harg5 : arg5.IsWhole) (arg6 : Memref sig .tc .vmem S1024x1 .i32) (harg6 : arg6.IsWhole)
    (arg7 : Memref sig .tc .smem S1x1 .f32) (harg7 : arg7.IsWhole)
    (hc0 : ¬cond0_0 i) (hc1 : cond0_1 i) (hc2 : cond0_2 i)
    (x0 : Vec F S1024x1 .i32) (x1 : Vec F S1024x256 .bf16) (x2 : Vec F S3328x256 .bf16) (x3 : Vec F S3328x256 .f32) (xo6 : Vec F S1x1 .f32) :
    (kernelRun0_B c i arg1 harg1 arg2 harg2 arg3 harg3 arg4 harg4 arg5 harg5 arg6 harg6 arg7 harg7 hc0 hc1 hc2 x0 x1 x2 x3 xo6).2.2.1
      = ⟨Rect.unit (s := S1x1) ![0, 0] S1x1.size inb_S1x1_S1x1_0_0, fun _ => lossStep x3 (View.ld (Val := Elt F) x3 (Rect.unit (s := S3328x256) (k0_off2 i) S256x256.size (k0_off2_inb i hc2))) (lossStep x3 (View.ld (Val := Elt F) x3 (Rect.unit (s := S3328x256) (k0_off1 i) S256x256.size (k0_off1_inb i hc1))) (xo6 (Shape.Idx.first (by decide))))⟩ :: (kernelRun0_B c i arg1 harg1 arg2 harg2 arg3 harg3 arg4 harg4 arg5 harg5 arg6 harg6 arg7 harg7 hc0 hc1 hc2 x0 x1 x2 x3 xo6).2.2.1.tail :=
  (by sl_kernel_rfl : (kernelRun0_B c i arg1 harg1 arg2 harg2 arg3 harg3 arg4 harg4 arg5 harg5 arg6 harg6 arg7 harg7 hc0 hc1 hc2 x0 x1 x2 x3 xo6).2.2.1
      = ⟨Rect.unit (s := S1x1) ![0, 0] S1x1.size inb_S1x1_S1x1_0_0, fun _ => lossStep (arg4.view.readAt (Elt F) (Rect.unit (s := S3328x256) ![0, 0] S3328x256.size inb_S3328x256_S3328x256_0_0).toLoadRect (harg4.unread x3)) (arg4.view.readAt (Elt F) (Rect.unit (s := S3328x256) (k0_off2 i) S256x256.size (k0_off2_inb i hc2)).toLoadRect (harg4.unread x3)) (lossStep (arg4.view.readAt (Elt F) (Rect.unit (s := S3328x256) ![0, 0] S3328x256.size inb_S3328x256_S3328x256_0_0).toLoadRect (harg4.unread x3)) (arg4.view.readAt (Elt F) (Rect.unit (s := S3328x256) (k0_off1 i) S256x256.size (k0_off1_inb i hc1)).toLoadRect (harg4.unread x3)) (arg7.view.readAt (Elt F) (Rect.unit (s := S1x1) ![0, 0] S1x1.size inb_S1x1_S1x1_0_0).toLoadRect (harg7.unread xo6) (Shape.Idx.first (by decide))))⟩ :: (kernelRun0_B c i arg1 harg1 arg2 harg2 arg3 harg3 arg4 harg4 arg5 harg5 arg6 harg6 arg7 harg7 hc0 hc1 hc2 x0 x1 x2 x3 xo6).2.2.1.tail).trans
    (by rw [load_whole arg4 harg4 x3, load_part arg4 harg4 x3, load_part arg4 harg4 x3, load_whole arg7 harg7 xo6])

end Cert.KernelIdeal.Val

end
-- ==== Proof.Run.CaseC.lean ====
/- The kernel body run at point 6: one block of the loss is added. -/
module

public import proofs.«01_k».proof.Proof.Run.Kit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body run at point 6: one block of the loss is added. The lists are what its stores leave in
    each output block, found by running it. -/
noncomputable def kernelRun0_C (c : Dev nD) (i : grid0.Coords)
    (arg1 : Memref sig .tc .vmem S1024x1 .i32) (harg1 : arg1.IsWhole) (arg2 : Memref sig .tc .vmem S1024x256 .bf16) (harg2 : arg2.IsWhole)
    (arg3 : Memref sig .tc .vmem S3328x256 .bf16) (harg3 : arg3.IsWhole) (arg4 : Memref sig .tc .vmem S3328x256 .f32) (harg4 : arg4.IsWhole)
    (arg5 : Memref sig .tc .vmem S1024x256 .f32) (harg5 : arg5.IsWhole) (arg6 : Memref sig .tc .vmem S1024x1 .i32) (harg6 : arg6.IsWhole)
    (arg7 : Memref sig .tc .smem S1x1 .f32) (harg7 : arg7.IsWhole)
    (hc0 : ¬cond0_0 i) (hc1 : cond0_1 i) (hc2 : ¬cond0_2 i)
    (x0 : Vec F S1024x1 .i32) (x1 : Vec F S1024x256 .bf16) (x2 : Vec F S3328x256 .bf16) (x3 : Vec F S3328x256 .f32) (xo6 : Vec F S1x1 .f32) :
    Σ' (L4 : List (View.Piece (Elt F) S1024x256 .f32)), Σ' (L5 : List (View.Piece (Elt F) S1024x1 .i32)), { L6 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
              ∗ (∃ f, arg5.view.loc (c : Thread nD τ) ↦[arg5.view.set]{fullShare} arg5.view.writes (Elt F) f L4)
              ∗ (∃ f, arg6.view.loc (c : Thread nD τ) ↦[arg6.view.set]{fullShare} arg6.view.writes (Elt F) f L5)
              ∗ (∃ f, arg7.view.loc (c : Thread nD τ) ↦[arg7.view.set]{fullShare} arg7.view.writes (Elt F) f L6)) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, ?_, ?_, fun E K => ?run⟩
  case run =>
    simp only [cc0__fused_kernel_eq_skeleton]; unfold cc0__fused_kernel_skel
    simp only [k0_part52_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part2_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3; obtain rfl := harg7.eq_unread hf6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

end Cert.KernelIdeal.Run

end
-- ==== Proof.Val.FoundC.lean ====
/- The values found by running the kernel body at point 6 are the plain functions of the blocks it reads. -/
module

public import proofs.«01_k».proof.Proof.Run.CaseC
public import proofs.«01_k».proof.Proof.Val.Loads

@[expose] public section

set_option maxRecDepth 16384

noncomputable section

namespace Cert.KernelIdeal.Val

open Cert.KernelIdeal Cert.KernelIdeal.Gen Cert.KernelIdeal.Run
open Idealize.ShloMosaic Idealize.ShloMosaic.TcCoe

variable {F : FTy → Type} [FloatOps F] [Named F]

/-- What is stored in output block 4. -/
theorem found_C4 (c : Dev nD) (i : grid0.Coords)
    (arg1 : Memref sig .tc .vmem S1024x1 .i32) (harg1 : arg1.IsWhole) (arg2 : Memref sig .tc .vmem S1024x256 .bf16) (harg2 : arg2.IsWhole)
    (arg3 : Memref sig .tc .vmem S3328x256 .bf16) (harg3 : arg3.IsWhole) (arg4 : Memref sig .tc .vmem S3328x256 .f32) (harg4 : arg4.IsWhole)
    (arg5 : Memref sig .tc .vmem S1024x256 .f32) (harg5 : arg5.IsWhole) (arg6 : Memref sig .tc .vmem S1024x1 .i32) (harg6 : arg6.IsWhole)
    (arg7 : Memref sig .tc .smem S1x1 .f32) (harg7 : arg7.IsWhole)
    (hc0 : ¬cond0_0 i) (hc1 : cond0_1 i) (hc2 : ¬cond0_2 i)
    (x0 : Vec F S1024x1 .i32) (x1 : Vec F S1024x256 .bf16) (x2 : Vec F S3328x256 .bf16) (x3 : Vec F S3328x256 .f32) (xo6 : Vec F S1x1 .f32) :
    (kernelRun0_C c i arg1 harg1 arg2 harg2 arg3 harg3 arg4 harg4 arg5 harg5 arg6 harg6 arg7 harg7 hc0 hc1 hc2 x0 x1 x2 x3 xo6).1
      = [⟨Rect.unit (s := S1024x256) ![0, 0] S1024x256.size inb_S1024x256_S1024x256_0_0, quantBlk x0 x1 x2⟩] :=
  (by sl_kernel_rfl : (kernelRun0_C c i arg1 harg1 arg2 harg2 arg3 harg3 arg4 harg4 arg5 harg5 arg6 harg6 arg7 harg7 hc0 hc1 hc2 x0 x1 x2 x3 xo6).1 = [⟨Rect.unit (s := S1024x256) ![0, 0] S1024x256.size inb_S1024x256_S1024x256_0_0, quantBlk (shapeCast S1024x1 (arg1.view.readAt (Elt F) (Rect.unit (s := S1024x1) ![0, 0] S1024x1.size inb_S1024x1_S1024x1_0_0).toLoadRect (harg1.unread x0)) shapeCasts_S1024x1_S1024x1) (shapeCast S1024x256 (arg2.view.readAt (Elt F) (Rect.unit (s := S1024x256) ![0, 0] S1024x256.size inb_S1024x256_S1024x256_0_0).toLoadRect (harg2.unread x1)) shapeCasts_S1024x256_S1024x256) (shapeCast S3328x256 (arg3.view.readAt (Elt F) (Rect.unit (s := S3328x256) ![0, 0] S3328x256.size inb_S3328x256_S3328x256_0_0).toLoadRect (harg3.unread x2)) shapeCasts_S3328x256_S3328x256)⟩]).trans
    (by
      have e0 : (shapeCast S1024x1 (arg1.view.readAt (Elt F) (Rect.unit (s := S1024x1) ![0, 0] S1024x1.size inb_S1024x1_S1024x1_0_0).toLoadRect (harg1.unread x0)) shapeCasts_S1024x1_S1024x1) = x0 := (shapeCast_self _ _).trans (load_whole arg1 harg1 x0 _)
      have e1 : (shapeCast S1024x256 (arg2.view.readAt (Elt F) (Rect.unit (s := S1024x256) ![0, 0] S1024x256.size inb_S1024x256_S1024x256_0_0).toLoadRect (harg2.unread x1)) shapeCasts_S1024x256_S1024x256) = x1 := (shapeCast_self _ _).trans (load_whole arg2 harg2 x1 _)
      have e2 : (shapeCast S3328x256 (arg3.view.readAt (Elt F) (Rect.unit (s := S3328x256) ![0, 0] S3328x256.size inb_S3328x256_S3328x256_0_0).toLoadRect (harg3.unread x2)) shapeCasts_S3328x256_S3328x256) = x2 := (shapeCast_self _ _).trans (load_whole arg3 harg3 x2 _)
      rw [e0, e1, e2])

/-- What is stored in output block 5. -/
theorem found_C5 (c : Dev nD) (i : grid0.Coords)
    (arg1 : Memref sig .tc .vmem S1024x1 .i32) (harg1 : arg1.IsWhole) (arg2 : Memref sig .tc .vmem S1024x256 .bf16) (harg2 : arg2.IsWhole)
    (arg3 : Memref sig .tc .vmem S3328x256 .bf16) (harg3 : arg3.IsWhole) (arg4 : Memref sig .tc .vmem S3328x256 .f32) (harg4 : arg4.IsWhole)
    (arg5 : Memref sig .tc .vmem S1024x256 .f32) (harg5 : arg5.IsWhole) (arg6 : Memref sig .tc .vmem S1024x1 .i32) (harg6 : arg6.IsWhole)
    (arg7 : Memref sig .tc .smem S1x1 .f32) (harg7 : arg7.IsWhole)
    (hc0 : ¬cond0_0 i) (hc1 : cond0_1 i) (hc2 : ¬cond0_2 i)
    (x0 : Vec F S1024x1 .i32) (x1 : Vec F S1024x256 .bf16) (x2 : Vec F S3328x256 .bf16) (x3 : Vec F S3328x256 .f32) (xo6 : Vec F S1x1 .f32) :
    (kernelRun0_C c i arg1 harg1 arg2 harg2 arg3 harg3 arg4 harg4 arg5 harg5 arg6 harg6 arg7 harg7 hc0 hc1 hc2 x0 x1 x2 x3 xo6).2.1
      = [⟨Rect.unit (s := S1024x1) ![0, 0] S1024x1.size inb_S1024x1_S1024x1_0_0, indexBlk x0 x1 x2⟩] :=
  (by sl_kernel_rfl : (kernelRun0_C c i arg1 harg1 arg2 harg2 arg3 harg3 arg4 harg4 arg5 harg5 arg6 harg6 arg7 harg7 hc0 hc1 hc2 x0 x1 x2 x3 xo6).2.1 = [⟨Rect.unit (s := S1024x1) ![0, 0] S1024x1.size inb_S1024x1_S1024x1_0_0, indexBlk (shapeCast S1024x1 (arg1.view.readAt (Elt F) (Rect.unit (s := S1024x1) ![0, 0] S1024x1.size inb_S1024x1_S1024x1_0_0).toLoadRect (harg1.unread x0)) shapeCasts_S1024x1_S1024x1) (shapeCast S1024x256 (arg2.view.readAt (Elt F) (Rect.unit (s := S1024x256) ![0, 0] S1024x256.size inb_S1024x256_S1024x256_0_0).toLoadRect (harg2.unread x1)) shapeCasts_S1024x256_S1024x256) (shapeCast S3328x256 (arg3.view.readAt (Elt F) (Rect.unit (s := S3328x256) ![0, 0] S3328x256.size inb_S3328x256_S3328x256_0_0).toLoadRect (harg3.unread x2)) shapeCasts_S3328x256_S3328x256)⟩]).trans
    (by
      have e0 : (shapeCast S1024x1 (arg1.view.readAt (Elt F) (Rect.unit (s := S1024x1) ![0, 0] S1024x1.size inb_S1024x1_S1024x1_0_0).toLoadRect (harg1.unread x0)) shapeCasts_S1024x1_S1024x1) = x0 := (shapeCast_self _ _).trans (load_whole arg1 harg1 x0 _)
      have e1 : (shapeCast S1024x256 (arg2.view.readAt (Elt F) (Rect.unit (s := S1024x256) ![0, 0] S1024x256.size inb_S1024x256_S1024x256_0_0).toLoadRect (harg2.unread x1)) shapeCasts_S1024x256_S1024x256) = x1 := (shapeCast_self _ _).trans (load_whole arg2 harg2 x1 _)
      have e2 : (shapeCast S3328x256 (arg3.view.readAt (Elt F) (Rect.unit (s := S3328x256) ![0, 0] S3328x256.size inb_S3328x256_S3328x256_0_0).toLoadRect (harg3.unread x2)) shapeCasts_S3328x256_S3328x256) = x2 := (shapeCast_self _ _).trans (load_whole arg3 harg3 x2 _)
      rw [e0, e1, e2])

/-- What is stored last in the accumulator. -/
theorem found_C6 (c : Dev nD) (i : grid0.Coords)
    (arg1 : Memref sig .tc .vmem S1024x1 .i32) (harg1 : arg1.IsWhole) (arg2 : Memref sig .tc .vmem S1024x256 .bf16) (harg2 : arg2.IsWhole)
    (arg3 : Memref sig .tc .vmem S3328x256 .bf16) (harg3 : arg3.IsWhole) (arg4 : Memref sig .tc .vmem S3328x256 .f32) (harg4 : arg4.IsWhole)
    (arg5 : Memref sig .tc .vmem S1024x256 .f32) (harg5 : arg5.IsWhole) (arg6 : Memref sig .tc .vmem S1024x1 .i32) (harg6 : arg6.IsWhole)
    (arg7 : Memref sig .tc .smem S1x1 .f32) (harg7 : arg7.IsWhole)
    (hc0 : ¬cond0_0 i) (hc1 : cond0_1 i) (hc2 : ¬cond0_2 i)
    (x0 : Vec F S1024x1 .i32) (x1 : Vec F S1024x256 .bf16) (x2 : Vec F S3328x256 .bf16) (x3 : Vec F S3328x256 .f32) (xo6 : Vec F S1x1 .f32) :
    (kernelRun0_C c i arg1 harg1 arg2 harg2 arg3 harg3 arg4 harg4 arg5 harg5 arg6 harg6 arg7 harg7 hc0 hc1 hc2 x0 x1 x2 x3 xo6).2.2.1
      = ⟨Rect.unit (s := S1x1) ![0, 0] S1x1.size inb_S1x1_S1x1_0_0, fun _ => lossStep x3 (View.ld (Val := Elt F) x3 (Rect.unit (s := S3328x256) (k0_off1 i) S256x256.size (k0_off1_inb i hc1))) (xo6 (Shape.Idx.first (by decide)))⟩ :: (kernelRun0_C c i arg1 harg1 arg2 harg2 arg3 harg3 arg4 harg4 arg5 harg5 arg6 harg6 arg7 harg7 hc0 hc1 hc2 x0 x1 x2 x3 xo6).2.2.1.tail :=
  (by sl_kernel_rfl : (kernelRun0_C c i arg1 harg1 arg2 harg2 arg3 harg3 arg4 harg4 arg5 harg5 arg6 harg6 arg7 harg7 hc0 hc1 hc2 x0 x1 x2 x3 xo6).2.2.1
      = ⟨Rect.unit (s := S1x1) ![0, 0] S1x1.size inb_S1x1_S1x1_0_0, fun _ => lossStep (arg4.view.readAt (Elt F) (Rect.unit (s := S3328x256) ![0, 0] S3328x256.size inb_S3328x256_S3328x256_0_0).toLoadRect (harg4.unread x3)) (arg4.view.readAt (Elt F) (Rect.unit (s := S3328x256) (k0_off1 i) S256x256.size (k0_off1_inb i hc1)).toLoadRect (harg4.unread x3)) (arg7.view.readAt (Elt F) (Rect.unit (s := S1x1) ![0, 0] S1x1.size inb_S1x1_S1x1_0_0).toLoadRect (harg7.unread xo6) (Shape.Idx.first (by decide)))⟩ :: (kernelRun0_C c i arg1 harg1 arg2 harg2 arg3 harg3 arg4 harg4 arg5 harg5 arg6 harg6 arg7 harg7 hc0 hc1 hc2 x0 x1 x2 x3 xo6).2.2.1.tail).trans
    (by rw [load_whole arg4 harg4 x3, load_part arg4 harg4 x3, load_whole arg7 harg7 xo6])

end Cert.KernelIdeal.Val

end
-- ==== Proof.Run.CaseD.lean ====
/- The kernel body run at point 7: the accumulator is left alone. -/
module

public import proofs.«01_k».proof.Proof.Run.Kit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body run at point 7: the accumulator is left alone. The lists are what its stores leave in
    each output block, found by running it. -/
noncomputable def kernelRun0_D (c : Dev nD) (i : grid0.Coords)
    (arg1 : Memref sig .tc .vmem S1024x1 .i32) (harg1 : arg1.IsWhole) (arg2 : Memref sig .tc .vmem S1024x256 .bf16) (harg2 : arg2.IsWhole)
    (arg3 : Memref sig .tc .vmem S3328x256 .bf16) (harg3 : arg3.IsWhole) (arg4 : Memref sig .tc .vmem S3328x256 .f32) (harg4 : arg4.IsWhole)
    (arg5 : Memref sig .tc .vmem S1024x256 .f32) (harg5 : arg5.IsWhole) (arg6 : Memref sig .tc .vmem S1024x1 .i32) (harg6 : arg6.IsWhole)
    (arg7 : Memref sig .tc .smem S1x1 .f32) (harg7 : arg7.IsWhole)
    (hc0 : ¬cond0_0 i) (hc1 : ¬cond0_1 i) (hc2 : ¬cond0_2 i)
    (x0 : Vec F S1024x1 .i32) (x1 : Vec F S1024x256 .bf16) (x2 : Vec F S3328x256 .bf16) (x3 : Vec F S3328x256 .f32) (xo6 : Vec F S1x1 .f32) :
    Σ' (L4 : List (View.Piece (Elt F) S1024x256 .f32)), { L5 : List (View.Piece (Elt F) S1024x1 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
              ∗ (∃ f, arg5.view.loc (c : Thread nD τ) ↦[arg5.view.set]{fullShare} arg5.view.writes (Elt F) f L4)
              ∗ (∃ f, arg6.view.loc (c : Thread nD τ) ↦[arg6.view.set]{fullShare} arg6.view.writes (Elt F) f L5)
              ∗ owns (c : Thread nD τ) arg7 fullShare xo6) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    simp only [k0_part52_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3; obtain rfl := harg7.eq_unread hf6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; isplitr; · ipureintro; exact harg7.read_unread _
    iexact H6

end Cert.KernelIdeal.Run

end
-- ==== Proof.Val.FoundD.lean ====
/- The values found by running the kernel body at point 7 are the plain functions of the blocks it reads. -/
module

public import proofs.«01_k».proof.Proof.Run.CaseD
public import proofs.«01_k».proof.Proof.Val.Loads

@[expose] public section

set_option maxRecDepth 16384

noncomputable section

namespace Cert.KernelIdeal.Val

open Cert.KernelIdeal Cert.KernelIdeal.Gen Cert.KernelIdeal.Run
open Idealize.ShloMosaic Idealize.ShloMosaic.TcCoe

variable {F : FTy → Type} [FloatOps F] [Named F]

/-- What is stored in output block 4. -/
theorem found_D4 (c : Dev nD) (i : grid0.Coords)
    (arg1 : Memref sig .tc .vmem S1024x1 .i32) (harg1 : arg1.IsWhole) (arg2 : Memref sig .tc .vmem S1024x256 .bf16) (harg2 : arg2.IsWhole)
    (arg3 : Memref sig .tc .vmem S3328x256 .bf16) (harg3 : arg3.IsWhole) (arg4 : Memref sig .tc .vmem S3328x256 .f32) (harg4 : arg4.IsWhole)
    (arg5 : Memref sig .tc .vmem S1024x256 .f32) (harg5 : arg5.IsWhole) (arg6 : Memref sig .tc .vmem S1024x1 .i32) (harg6 : arg6.IsWhole)
    (arg7 : Memref sig .tc .smem S1x1 .f32) (harg7 : arg7.IsWhole)
    (hc0 : ¬cond0_0 i) (hc1 : ¬cond0_1 i) (hc2 : ¬cond0_2 i)
    (x0 : Vec F S1024x1 .i32) (x1 : Vec F S1024x256 .bf16) (x2 : Vec F S3328x256 .bf16) (x3 : Vec F S3328x256 .f32) (xo6 : Vec F S1x1 .f32) :
    (kernelRun0_D c i arg1 harg1 arg2 harg2 arg3 harg3 arg4 harg4 arg5 harg5 arg6 harg6 arg7 harg7 hc0 hc1 hc2 x0 x1 x2 x3 xo6).1
      = [⟨Rect.unit (s := S1024x256) ![0, 0] S1024x256.size inb_S1024x256_S1024x256_0_0, quantBlk x0 x1 x2⟩] :=
  (by sl_kernel_rfl : (kernelRun0_D c i arg1 harg1 arg2 harg2 arg3 harg3 arg4 harg4 arg5 harg5 arg6 harg6 arg7 harg7 hc0 hc1 hc2 x0 x1 x2 x3 xo6).1 = [⟨Rect.unit (s := S1024x256) ![0, 0] S1024x256.size inb_S1024x256_S1024x256_0_0, quantBlk (shapeCast S1024x1 (arg1.view.readAt (Elt F) (Rect.unit (s := S1024x1) ![0, 0] S1024x1.size inb_S1024x1_S1024x1_0_0).toLoadRect (harg1.unread x0)) shapeCasts_S1024x1_S1024x1) (shapeCast S1024x256 (arg2.view.readAt (Elt F) (Rect.unit (s := S1024x256) ![0, 0] S1024x256.size inb_S1024x256_S1024x256_0_0).toLoadRect (harg2.unread x1)) shapeCasts_S1024x256_S1024x256) (shapeCast S3328x256 (arg3.view.readAt (Elt F) (Rect.unit (s := S3328x256) ![0, 0] S3328x256.size inb_S3328x256_S3328x256_0_0).toLoadRect (harg3.unread x2)) shapeCasts_S3328x256_S3328x256)⟩]).trans
    (by
      have e0 : (shapeCast S1024x1 (arg1.view.readAt (Elt F) (Rect.unit (s := S1024x1) ![0, 0] S1024x1.size inb_S1024x1_S1024x1_0_0).toLoadRect (harg1.unread x0)) shapeCasts_S1024x1_S1024x1) = x0 := (shapeCast_self _ _).trans (load_whole arg1 harg1 x0 _)
      have e1 : (shapeCast S1024x256 (arg2.view.readAt (Elt F) (Rect.unit (s := S1024x256) ![0, 0] S1024x256.size inb_S1024x256_S1024x256_0_0).toLoadRect (harg2.unread x1)) shapeCasts_S1024x256_S1024x256) = x1 := (shapeCast_self _ _).trans (load_whole arg2 harg2 x1 _)
      have e2 : (shapeCast S3328x256 (arg3.view.readAt (Elt F) (Rect.unit (s := S3328x256) ![0, 0] S3328x256.size inb_S3328x256_S3328x256_0_0).toLoadRect (harg3.unread x2)) shapeCasts_S3328x256_S3328x256) = x2 := (shapeCast_self _ _).trans (load_whole arg3 harg3 x2 _)
      rw [e0, e1, e2])

/-- What is stored in output block 5. -/
theorem found_D5 (c : Dev nD) (i : grid0.Coords)
    (arg1 : Memref sig .tc .vmem S1024x1 .i32) (harg1 : arg1.IsWhole) (arg2 : Memref sig .tc .vmem S1024x256 .bf16) (harg2 : arg2.IsWhole)
    (arg3 : Memref sig .tc .vmem S3328x256 .bf16) (harg3 : arg3.IsWhole) (arg4 : Memref sig .tc .vmem S3328x256 .f32) (harg4 : arg4.IsWhole)
    (arg5 : Memref sig .tc .vmem S1024x256 .f32) (harg5 : arg5.IsWhole) (arg6 : Memref sig .tc .vmem S1024x1 .i32) (harg6 : arg6.IsWhole)
    (arg7 : Memref sig .tc .smem S1x1 .f32) (harg7 : arg7.IsWhole)
    (hc0 : ¬cond0_0 i) (hc1 : ¬cond0_1 i) (hc2 : ¬cond0_2 i)
    (x0 : Vec F S1024x1 .i32) (x1 : Vec F S1024x256 .bf16) (x2 : Vec F S3328x256 .bf16) (x3 : Vec F S3328x256 .f32) (xo6 : Vec F S1x1 .f32) :
    (kernelRun0_D c i arg1 harg1 arg2 harg2 arg3 harg3 arg4 harg4 arg5 harg5 arg6 harg6 arg7 harg7 hc0 hc1 hc2 x0 x1 x2 x3 xo6).2.1
      = [⟨Rect.unit (s := S1024x1) ![0, 0] S1024x1.size inb_S1024x1_S1024x1_0_0, indexBlk x0 x1 x2⟩] :=
  (by sl_kernel_rfl : (kernelRun0_D c i arg1 harg1 arg2 harg2 arg3 harg3 arg4 harg4 arg5 harg5 arg6 harg6 arg7 harg7 hc0 hc1 hc2 x0 x1 x2 x3 xo6).2.1 = [⟨Rect.unit (s := S1024x1) ![0, 0] S1024x1.size inb_S1024x1_S1024x1_0_0, indexBlk (shapeCast S1024x1 (arg1.view.readAt (Elt F) (Rect.unit (s := S1024x1) ![0, 0] S1024x1.size inb_S1024x1_S1024x1_0_0).toLoadRect (harg1.unread x0)) shapeCasts_S1024x1_S1024x1) (shapeCast S1024x256 (arg2.view.readAt (Elt F) (Rect.unit (s := S1024x256) ![0, 0] S1024x256.size inb_S1024x256_S1024x256_0_0).toLoadRect (harg2.unread x1)) shapeCasts_S1024x256_S1024x256) (shapeCast S3328x256 (arg3.view.readAt (Elt F) (Rect.unit (s := S3328x256) ![0, 0] S3328x256.size inb_S3328x256_S3328x256_0_0).toLoadRect (harg3.unread x2)) shapeCasts_S3328x256_S3328x256)⟩]).trans
    (by
      have e0 : (shapeCast S1024x1 (arg1.view.readAt (Elt F) (Rect.unit (s := S1024x1) ![0, 0] S1024x1.size inb_S1024x1_S1024x1_0_0).toLoadRect (harg1.unread x0)) shapeCasts_S1024x1_S1024x1) = x0 := (shapeCast_self _ _).trans (load_whole arg1 harg1 x0 _)
      have e1 : (shapeCast S1024x256 (arg2.view.readAt (Elt F) (Rect.unit (s := S1024x256) ![0, 0] S1024x256.size inb_S1024x256_S1024x256_0_0).toLoadRect (harg2.unread x1)) shapeCasts_S1024x256_S1024x256) = x1 := (shapeCast_self _ _).trans (load_whole arg2 harg2 x1 _)
      have e2 : (shapeCast S3328x256 (arg3.view.readAt (Elt F) (Rect.unit (s := S3328x256) ![0, 0] S3328x256.size inb_S3328x256_S3328x256_0_0).toLoadRect (harg3.unread x2)) shapeCasts_S3328x256_S3328x256) = x2 := (shapeCast_self _ _).trans (load_whole arg3 harg3 x2 _)
      rw [e0, e1, e2])

end Cert.KernelIdeal.Val

end
-- ==== Proof.Run.Frame.lean ====
/- What each grid point leaves in the staging buffers, and that the body leaves it. -/
module

public import proofs.«01_k».proof.Proof.Val.FoundA
public import proofs.«01_k».proof.Proof.Val.FoundB
public import proofs.«01_k».proof.Proof.Val.FoundC
public import proofs.«01_k».proof.Proof.Val.FoundD
public import Idealize.ShloMosaic.Lib.Pipeline.ValueKit

@[expose] public section

set_option maxRecDepth 16384

noncomputable section

namespace Cert.KernelIdeal.Run

open Cert.KernelIdeal Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The table as the pipeline finds it. -/
def tab (c : Dev nD) : Vec F S3328x256 .f32 := V m c main_arg2

/-- The table's window is the whole table at every point. -/
theorem index3 : ∀ t : Fin cfg0.N, win0_3.index t = ![0, 0] :=
  (by decide +kernel : ∀ t : Fin grid0.N, win0_3.index t = ![0, 0])

theorem iblk3 (c : Dev nD) (t : Fin cfg0.N) : (iblk m c 3 t : Vec F S3328x256 .f32) = tab m c := by
  funext y
  have e : ((cfg0.win 3).blk t).view.emb y = y := by
    funext a
    apply Fin.ext
    match a with
    | ⟨0, _⟩ => blk_simp [index3]
    | ⟨1, _⟩ => blk_simp [index3]
  exact congrArg (V m c main_arg2) e

/-- How many blocks of the loss are added once point `t` is done. -/
abbrev nb (n : ℕ) : ℕ := min (2 * n + 2) 13

/-- The accumulator once point `n` is done. -/
def acc (c : Dev nD) (n : ℕ) : Vec F S1x1 .f32 := fun _ => lossSum (tab m c) (nb n) (Nat.min_le_right _ _)

/-- A read of the table at a block's offset is the block. -/
theorem ld_tab (E : Vec F S3328x256 .f32) (off : Fin 2 → ℕ) (j : ℕ) (hj : j < 13) (h : off = ![256 * j, 0]) (inb : ∀ a, off a + S256x256.size a ≤ S3328x256.size a) :
    View.ld (Val := Elt F) E (Rect.unit (s := S3328x256) off S256x256.size inb) = tabBlk E j hj := by
  subst h; rfl

/-- The offsets of the two blocks of the loss at a point. -/
theorem off1 : ∀ t : Fin cfg0.N, k0_off1 (grid0.coords t) = ![256 * (2 * t.val), 0] :=
  (by decide +kernel : ∀ t : Fin grid0.N, k0_off1 (grid0.coords t) = ![256 * (2 * t.val), 0])
theorem off2 : ∀ t : Fin cfg0.N, k0_off2 (grid0.coords t) = ![256 * (2 * t.val + 1), 0] :=
  (by decide +kernel : ∀ t : Fin grid0.N, k0_off2 (grid0.coords t) = ![256 * (2 * t.val + 1), 0])

/-- The sum at equal counts. -/
theorem lossSum_congr (E : Vec F S3328x256 .f32) {n n' : ℕ} (h : n = n') (hn : n ≤ 13) (hn' : n' ≤ 13) : lossSum E n hn = lossSum E n' hn' := by
  subst h; rfl

/-- The accumulator at the first point. -/
theorem acc_first (c : Dev nD) (t : Fin cfg0.N) (h : t.val = 0) :
    acc m c t.val = fun _ => lossStep (tab m c) (tabBlk (tab m c) (2 * t.val + 1) (by omega)) (lossStep (tab m c) (tabBlk (tab m c) (2 * t.val) (by omega)) (FloatOps.ofBits .f32 0x00000000#32)) := by
  obtain ⟨n, hn⟩ := t
  obtain rfl : n = 0 := h
  rfl

/-- The accumulator at a point with two blocks. -/
theorem acc_two (c : Dev nD) (n : ℕ) (h : ¬n = 0) (h6 : n < 6) :
    acc m c n = fun _ => lossStep (tab m c) (tabBlk (tab m c) (2 * n + 1) (by omega)) (lossStep (tab m c) (tabBlk (tab m c) (2 * n) (by omega)) (acc m c (n - 1) (Shape.Idx.first (by decide)))) := by
  have e : nb n = 2 * n + 1 + 1 := by simp only [nb]; omega
  have e' : 2 * n = nb (n - 1) := by simp only [nb]; omega
  funext x
  unfold acc
  rw [lossSum_congr (tab m c) e _ (by omega)]
  show lossStep _ _ (lossStep _ _ (lossSum (tab m c) (2 * n) _)) = _
  rw [lossSum_congr (tab m c) e' _ (Nat.min_le_right _ _)]

/-- The accumulator at the point with one block. -/
theorem acc_one (c : Dev nD) (n : ℕ) (h : n = 6) :
    acc m c n = fun _ => lossStep (tab m c) (tabBlk (tab m c) (2 * n) (by omega)) (acc m c (n - 1) (Shape.Idx.first (by decide))) := by
  subst h; rfl

/-- The accumulator at the last point. -/
theorem acc_none (c : Dev nD) (n : ℕ) (h : n = 7) : acc m c n = acc m c (n - 1) := by
  subst h; rfl

/-- What the windows hold once the body is done at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => quantBlk (F := F) (iblk m c 0 t) (iblk m c 1 t) (iblk m c 2 t)
    | ⟨5, _⟩ => indexBlk (F := F) (iblk m c 0 t) (iblk m c 1 t) (iblk m c 2 t)
    | ⟨6, _⟩ => acc m c t.val
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = quantBlk (F := F) (iblk m c 0 t) (iblk m c 1 t) (iblk m c 2 t) := by dsimp only [dats]
theorem after0_5 (c : Dev nD) (t : Fin cfg0.N) : (dats m 0 c).after 5 t = indexBlk (F := F) (iblk m c 0 t) (iblk m c 1 t) (iblk m c 2 t) := by dsimp only [dats]
theorem after0_6 (c : Dev nD) (t : Fin cfg0.N) : (dats m 0 c).after 6 t = acc m c t.val := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- The accumulator is stored into before point 7. -/
theorem live6 : ∀ t : Fin cfg0.N, t.val < 7 → cfg0.idle 6 (cfg0.grid.coords t) = false :=
  (by decide +kernel : ∀ t : Fin grid0.N, t.val < 7 → idle0 6 (grid0.coords t) = false)

/-- After the first point the accumulator holds what the point before left. -/
theorem before0_6 (c : Dev nD) (t : Fin cfg0.N) (h0 : ¬t.val % 8 = 0) (d) :
    (dats m 0 c).before 6 t d = acc m c (t.val - 1) := by
  have hN : t.val < 8 := lt_of_lt_of_eq t.isLt (show cfg0.N = 8 from N_0)
  have hl := live6 ⟨t.val - 1, Nat.lt_of_le_of_lt (Nat.sub_le _ _) t.isLt⟩ (by dsimp only; omega)
  have hf : (cfg0.win 6).flush ⟨t.val - 1, Nat.lt_of_le_of_lt (Nat.sub_le _ _) t.isLt⟩ = false :=
    Bool.eq_false_iff.mpr fun h => by have := (flush0_6 _).mp h; dsimp only at this; omega
  rw [(dats m 0 c).before_of_pos 6 t (by omega) ((cfg0.win 6).fetch_out rfl t), hf, if_neg Bool.false_ne_true]
  unfold Dat.left
  rw [hl]
  dsimp only
  unfold Dat.kept
  rw [Pipeline.fill_of_clip_none 6 _ (fun _ => rfl) d ((dats m 0 c).after 6 _), Window.fill_cut]
  dsimp only [dats]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body does, at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 8 := lt_of_lt_of_eq t.isLt (show cfg0.N = 8 from N_0)
  by_cases h0 : t.val % 8 = 0
  · iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) ((hcond0_1 t).mpr (by omega)) ((hcond0_2 t).mpr (by omega)) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; rw [found_A4]; exact View.read_writes_full _ _ _ _ _
    isplitl [H5]
    · unfold owns; iexists _; isplitr
      swap; · iexact H5
      ipureintro; rw [found_A5]; exact View.read_writes_full _ _ _ _ _
    unfold owns; iexists _; isplitr
    swap; · iexact H6
    ipureintro; rw [found_A6]; refine (View.read_writes_full _ _ _ _ _).trans ?_
    rw [acc_first m c t (by omega), ld_tab _ _ _ (by omega) (off1 t), ld_tab _ _ _ (by omega) (off2 t), iblk3]; rfl
  by_cases h2 : t.val < 6
  · simp only [before0_6 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) ((hcond0_1 t).mpr (by omega)) ((hcond0_2 t).mpr h2) (iblk m c 0 t) (iblk m c 1 t) (iblk m c 2 t) (iblk m c 3 t) (acc m c (t.val - 1))).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; rw [found_B4]; exact View.read_writes_full _ _ _ _ _
    isplitl [H5]
    · unfold owns; iexists _; isplitr
      swap; · iexact H5
      ipureintro; rw [found_B5]; exact View.read_writes_full _ _ _ _ _
    unfold owns; iexists _; isplitr
    swap; · iexact H6
    ipureintro; rw [found_B6]; refine (View.read_writes_full _ _ _ _ _).trans ?_
    rw [acc_two m c t.val (by omega) h2, ld_tab _ _ _ (by omega) (off1 t), ld_tab _ _ _ (by omega) (off2 t), iblk3]; rfl
  by_cases h1 : t.val < 7
  · simp only [before0_6 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_C c (grid0.coords t) _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (acc m c (t.val - 1))).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; rw [found_C4]; exact View.read_writes_full _ _ _ _ _
    isplitl [H5]
    · unfold owns; iexists _; isplitr
      swap; · iexact H5
      ipureintro; rw [found_C5]; exact View.read_writes_full _ _ _ _ _
    unfold owns; iexists _; isplitr
    swap; · iexact H6
    ipureintro; rw [found_C6]; refine (View.read_writes_full _ _ _ _ _).trans ?_
    rw [acc_one m c t.val (by omega), ld_tab _ _ _ (by omega) (off1 t), iblk3]; rfl
  · simp only [before0_6 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_D c (grid0.coords t) _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (acc m c (t.val - 1))).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    iintro ⟨H0, H1, H2, H3, ⟨%e4, H4⟩, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; rw [found_D4]; exact View.read_writes_full _ _ _ _ _
    isplitl [H5]
    · unfold owns; iexists _; isplitr
      swap; · iexact H5
      ipureintro; rw [found_D5]; exact View.read_writes_full _ _ _ _ _
    rw [acc_none m c t.val (by omega)]
    iexact H6

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- Past the last contribution the body leaves the total's buffer alone. -/
theorem idle6 : ∀ t : Fin cfg0.N, ¬t.val < 7 → cfg0.idle 6 (cfg0.grid.coords t) = true :=
  (by decide +kernel : ∀ t : Fin grid0.N, ¬t.val < 7 → idle0 6 (grid0.coords t) = true)

/-- The pipeline's obligation for the body. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ =>
    sep_mono .rfl (sep_mono .rfl (sep_mono .rfl (sep_mono .rfl (sep_mono .rfl (sep_mono .rfl (sep_mono .rfl (sep_mono .rfl ?_)))))))
  by_cases h : t.val < 7
  · rw [live6 t h]
  · rw [idle6 t h, (flush0_6 t).mpr (by have := t.isLt; simp only [show cfg0.N = 8 from N_0] at this; omega)]

set_option backward.isDefEq.respectTransparency.types false in
set_option maxHeartbeats 800000 in
/-- The run: what the arrays hold at the end, and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the program ends, leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Run

end
-- ==== Proof.Ref.Stages.lean ====
/-
The reference in stages: the functions of the arguments that its results compose.
-/
module

public import proofs.«01_k».proof.Proof.Gen.ReferenceIdeal

@[expose] public section

noncomputable section

namespace Cert.ReferenceIdeal.Ref

open Cert.ReferenceIdeal Cert.ReferenceIdeal.Gen Idealize.ShloMosaic

variable {F : FTy → Type} [FloatOps F]

/-- A zero in front of the running sums but the last: where each sub-codebook starts. -/
def joinStarts : (⟨S1, .i32⟩ : BufTy).Contents (Elt F) → (⟨S25, .i32⟩ : BufTy).Contents (Elt F) → (⟨S26, .i32⟩ : BufTy).Contents (Elt F) :=
  fun a b => concatenate S26 0 [⟨S1, a⟩, ⟨S25, b⟩] concatenates_S1_S25_S26_d0

/-- The running sums of the sub-codebooks' sizes. -/
def ends : IVec S26 32 :=
  Host.reduceWindow IntOp.addi ![26] ![1] ![25] ![0] (broadcastInDim S26 ![] bcast_S_S26 (constantI S_ 32 128#32))
    (broadcastInDim S_ ![] bcast_S_S_ (constantI S_ 32 0#32)) reduceWindows_S26_S26_w26s1p25_0 h_S_

/-- The starts of all the sub-codebooks. -/
def allStarts : IVec S26 32 :=
  joinStarts (F := F) (broadcastInDim S1 ![] bcast_S_S1 (constantI S_ 32 0#32)) (extractStridedSlice S25 ![0] ends slices_S26_S25_0)

/-- Each row's sub-codebook's start. -/
def starts (Q : IVec S8192 32) : IVec S8192 32 :=
  Host.gather gather_S26_S8192x1_S8192_n_0_n_n_0_1_1 (allStarts (F := F))
    (broadcastInDim S8192x1 ![0] bcast_S8192_S8192x1_0
      (select (cmpi .slt Q (broadcastInDim S8192 ![] bcast_S_S8192 (constantI S_ 32 0#32)))
        (addi Q (broadcastInDim S8192 ![] bcast_S_S8192 (constantI S_ 32 26#32))) Q))

/-- The number of each column, in every row. -/
def cols : IVec S8192x3328 32 :=
  broadcastInDim S8192x3328 ![0, 1] bcast_S1x3328_S8192x3328_0_1 (broadcastInDim S1x3328 ![1] bcast_S3328_S1x3328_1 (iotaInDim S3328 32 0))

/-- Whether a column lies in the row's sub-codebook. -/
def inside (s : IVec S8192 32) : IVec S8192x3328 1 :=
  andi
    (cmpi .sge cols (broadcastInDim S8192x3328 ![0, 1] bcast_S8192x1_S8192x3328_0_1 (broadcastInDim S8192x1 ![0] bcast_S8192_S8192x1_0 s)))
    (cmpi .slt cols (broadcastInDim S8192x3328 ![0, 1] bcast_S8192x1_S8192x3328_0_1
      (addi (broadcastInDim S8192x1 ![0] bcast_S8192_S8192x1_0 s) (broadcastInDim S8192x1 ![] bcast_S_S8192x1 (constantI S_ 32 128#32)))))

/-- The products of the rows with the embeddings. -/
def products (x : FVec F S8192x256 .f32) (E : FVec F S3328x256 .f32) : FVec F S8192x3328 .f32 :=
  Host.divf (Host.dotGeneral dot_S8192x256_S256x3328_S8192x3328_1_0_0_1_n_n none x (transpose S256x3328 [1, 0] E transposes_S3328x256_S256x3328_1_0))
    (broadcastInDim S8192x3328 ![] bcast_S_S8192x3328 (constant S_ .f32 0x3F800000#32))

/-- The products inside the sub-codebook, minus infinity outside. -/
def masked (x : FVec F S8192x256 .f32) (Q : IVec S8192 32) (E : FVec F S3328x256 .f32) : FVec F S8192x3328 .f32 :=
  select (inside (starts (F := F) Q)) (products x E) (broadcastInDim S8192x3328 ![] bcast_S_S8192x3328 (id (constant S_ .f32 0xFF800000#32)))

/-- The row maxima, in every column. -/
def maxima (l : FVec F S8192x3328 .f32) : FVec F S8192x3328 .f32 :=
  broadcastInDim S8192x3328 ![0, 1] bcast_S8192x1_S8192x3328_0_1 (broadcastInDim S8192x1 ![0] bcast_S8192_S8192x1_0
    (maximumf (broadcastInDim S8192 ![] bcast_S_S8192 (constant S_ .f32 0xFF800000#32))
      (Host.reduce FloatOps.maximumf l (constant S_ .f32 0xFF800000#32) reducesTo_S8192x3328_S8192_d1 h_S_)))

/-- The exponentials of what the products lie below their maximum. -/
def expos (l : FVec F S8192x3328 .f32) : FVec F S8192x3328 .f32 := Host.exp (subf l (maxima l))

/-- The softmax weights. -/
def soft (l : FVec F S8192x3328 .f32) : FVec F S8192x3328 .f32 :=
  Host.divf (expos l) (broadcastInDim S8192x3328 ![0, 1] bcast_S8192x1_S8192x3328_0_1 (broadcastInDim S8192x1 ![0] bcast_S8192_S8192x1_0
    (Host.reduceAdd (expos l) (constant S_ .f32 0x00000000#32) reducesTo_S8192x3328_S8192_d1 h_S_)))

/-- The first result: the weighted sums of the embeddings. -/
def quantRef (x : FVec F S8192x256 .f32) (Q : IVec S8192 32) (E : FVec F S3328x256 .f32) : FVec F S8192x256 .f32 :=
  Host.dotGeneral dot_S8192x3328_S3328x256_S8192x256_1_0_0_1_n_n none (soft (masked x Q E)) E

/-- The column of the largest entry of each row. -/
def argRef (s : FVec F S8192x3328 .f32) : IVec S8192 32 :=
  fun j => (Host.argReduce reducer_argmax_f32_i32 s (iotaInDim S8192x3328 32 1) (constant S_ .f32 0xFF800000#32) (constantI S_ 32 0#32)
    reducesTo_S8192x3328_S8192_d1 h_S_ j).2

/-- The fourth result: the number of the nearest embedding. -/
def indexRef (x : FVec F S8192x256 .f32) (Q : IVec S8192 32) (E : FVec F S3328x256 .f32) : IVec S8192 32 :=
  argRef (soft (masked x Q E))

/-- The embeddings divided by their lengths. -/
def unit (E : FVec F S3328x256 .f32) : FVec F S3328x256 .f32 :=
  Host.divf E (broadcastInDim S3328x256 ![0, 1] bcast_S3328x1_S3328x256_0_1 (Host.sqrt (broadcastInDim S3328x1 ![0] bcast_S3328_S3328x1_0
    (Host.reduceAdd (mulf E E) (constant S_ .f32 0x00000000#32) reducesTo_S3328x256_S3328_d1 h_S_))))

/-- Each embedding's sub-codebook: how many of the running sums are at most its number. -/
def labels : IVec S3328 32 :=
  Host.reduce IntOp.addi (extui 32 (cmpi .sle
      (broadcastInDim S3328x26 ![0, 1] bcast_S1x26_S3328x26_0_1 (broadcastInDim S1x26 ![1] bcast_S26_S1x26_1 ends))
      (broadcastInDim S3328x26 ![0, 1] bcast_S3328x1_S3328x26_0_1 (broadcastInDim S3328x1 ![0] bcast_S3328_S3328x1_0 (iotaInDim S3328 32 0))))
    natLt_1_32) (constantI S_ 32 0#32) reducesTo_S3328x26_S3328_d1 h_S_

/-- Whether two embeddings are of one sub-codebook. -/
def same : IVec S3328x3328 1 :=
  cmpi .eq (broadcastInDim S3328x3328 ![0, 1] bcast_S1x3328_S3328x3328_0_1 (broadcastInDim S1x3328 ![1] bcast_S3328_S1x3328_1 labels))
    (broadcastInDim S3328x3328 ![0, 1] bcast_S3328x1_S3328x3328_0_1 (broadcastInDim S3328x1 ![0] bcast_S3328_S3328x1_0 labels))

/-- Whether two embeddings are one. -/
def eye : IVec S3328x3328 1 :=
  cmpi .eq (addi (iotaInDim S3328x3328 32 0) (broadcastInDim S3328x3328 ![] bcast_S_S3328x3328 (constantI S_ 32 0#32))) (iotaInDim S3328x3328 32 1)

/-- The exponentials of the similarities over the temperature, without the diagonal. -/
def simExp (U : FVec F S3328x256 .f32) : FVec F S3328x3328 .f32 :=
  Host.exp (Host.divf
    (select eye (broadcastInDim S3328x3328 ![] bcast_S_S3328x3328 (id (constant S_ .f32 0xFF800000#32)))
      (Host.dotGeneral dot_S3328x256_S256x3328_S3328x3328_1_0_0_1_n_n none U (transpose S256x3328 [1, 0] U transposes_S3328x256_S256x3328_1_0)))
    (broadcastInDim S3328x3328 ![] bcast_S_S3328x3328 (constant S_ .f32 0x3D8F5C29#32)))

/-- The row sums of such exponentials. -/
def rowSum (p : FVec F S3328x3328 .f32) : FVec F S3328x1 .f32 :=
  broadcastInDim S3328x1 ![0] bcast_S3328_S3328x1_0 (Host.reduceAdd p (constant S_ .f32 0x00000000#32) reducesTo_S3328x3328_S3328_d1 h_S_)

/-- The loss of a matrix of exponentials. -/
def meanLog (p : FVec F S3328x3328 .f32) : FVec F S_ .f32 :=
  Host.negf (Host.divf
    (Host.reduceAdd (Host.log (Host.divf (rowSum (mulf p (uitofp .f32 same))) (rowSum p))) (constant S_ .f32 0x00000000#32) reducesTo_S3328x1_S_d0_1 h_S_)
    (constant S_ .f32 0x45500000#32))

/-- The third result: the uniformity loss. -/
def lossRef (E : FVec F S3328x256 .f32) : FVec F S_ .f32 := meanLog (simExp (unit E))

end Cert.ReferenceIdeal.Ref

end
-- ==== Proof.Ref.Run.lean ====
/-
The reference's run: its host operations in order, and each result as a composed function of the arguments.
-/
module

public import proofs.«01_k».proof.Proof.Gen.ReferenceIdeal
public import proofs.«01_k».proof.Proof.Ref.Stages
public import Idealize.ShloMosaic.Lib.StableHlo.Run

@[expose] public section

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- The reference's operations in order, those of a called function in its call's place. -/
abbrev ops : List (HloOp τ sig (Elt F)) :=
  [ nullary main_c (constantI S_ 32 128#32),
    unary main_c main_v0 (broadcastInDim S26 ![] bcast_S_S26 : (⟨S_, .i32⟩ : BufTy).Contents (Elt F) → (⟨S26, .i32⟩ : BufTy).Contents (Elt F)),
    TRef.nullary (TRef.of (T := ⟨S_, .i32⟩) main_call0_call0_c) (constantI S_ 32 0#32),
    TRef.unary (TRef.of (T := ⟨S_, .i32⟩) main_call0_call0_c) (TRef.of (T := ⟨S_, .i32⟩) main_call0_call0_v0) (broadcastInDim S_ ![] bcast_S_S_),
    TRef.binary (TRef.of (T := ⟨S26, .i32⟩) main_v0) (TRef.of (T := ⟨S_, .i32⟩) main_call0_call0_v0) (TRef.of (T := ⟨S26, .i32⟩) main_v1) (fun x v => Host.reduceWindow IntOp.addi ![26] ![1] ![25] ![0] x v reduceWindows_S26_S26_w26s1p25_0 h_S_),
    nullary main_c_0 (constantI S_ 32 0#32),
    unary main_c_0 main_v2 (broadcastInDim S1 ![] bcast_S_S1 : (⟨S_, .i32⟩ : BufTy).Contents (Elt F) → (⟨S1, .i32⟩ : BufTy).Contents (Elt F)),
    unary main_v1 main_v3 ((extractStridedSlice S25 ![0] · slices_S26_S25_0) : (⟨S26, .i32⟩ : BufTy).Contents (Elt F) → (⟨S25, .i32⟩ : BufTy).Contents (Elt F)),
    binary main_v2 main_v3 main_v4 (joinStarts (F := F)),
    nullary main_c_1 (constantI S_ 32 0#32),
    unary main_c_1 main_v5 (broadcastInDim S8192 ![] bcast_S_S8192 : (⟨S_, .i32⟩ : BufTy).Contents (Elt F) → (⟨S8192, .i32⟩ : BufTy).Contents (Elt F)),
    binary main_arg1 main_v5 main_v6 (cmpi .slt : (⟨S8192, .i32⟩ : BufTy).Contents (Elt F) → (⟨S8192, .i32⟩ : BufTy).Contents (Elt F) → (⟨S8192, .i1⟩ : BufTy).Contents (Elt F)),
    nullary main_c_2 (constantI S_ 32 26#32),
    unary main_c_2 main_v7 (broadcastInDim S8192 ![] bcast_S_S8192 : (⟨S_, .i32⟩ : BufTy).Contents (Elt F) → (⟨S8192, .i32⟩ : BufTy).Contents (Elt F)),
    binary main_arg1 main_v7 main_v8 (addi : (⟨S8192, .i32⟩ : BufTy).Contents (Elt F) → (⟨S8192, .i32⟩ : BufTy).Contents (Elt F) → (⟨S8192, .i32⟩ : BufTy).Contents (Elt F)),
    ternary main_v6 main_v8 main_arg1 main_v9 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v9 main_v10 (broadcastInDim S8192x1 ![0] bcast_S8192_S8192x1_0 : (⟨S8192, .i32⟩ : BufTy).Contents (Elt F) → (⟨S8192x1, .i32⟩ : BufTy).Contents (Elt F)),
    binary main_v4 main_v10 main_v11 ((fun x i => Host.gather gather_S26_S8192x1_S8192_n_0_n_n_0_1_1 x i) : (⟨S26, .i32⟩ : BufTy).Contents (Elt F) → (⟨S8192x1, .i32⟩ : BufTy).Contents (Elt F) → (⟨S8192, .i32⟩ : BufTy).Contents (Elt F)),
    unary main_arg2 main_v12 ((transpose S256x3328 [1, 0] · transposes_S3328x256_S256x3328_1_0) : (⟨S3328x256, .f32⟩ : BufTy).Contents (Elt F) → (⟨S256x3328, .f32⟩ : BufTy).Contents (Elt F)),
    binary main_arg0 main_v12 main_v13 ((fun l r => Host.dotGeneral dot_S8192x256_S256x3328_S8192x3328_1_0_0_1_n_n none l r) : (⟨S8192x256, .f32⟩ : BufTy).Contents (Elt F) → (⟨S256x3328, .f32⟩ : BufTy).Contents (Elt F) → (⟨S8192x3328, .f32⟩ : BufTy).Contents (Elt F)),
    nullary main_cst (constant S_ .f32 0x3F800000#32),
    unary main_cst main_v14 (broadcastInDim S8192x3328 ![] bcast_S_S8192x3328 : (⟨S_, .f32⟩ : BufTy).Contents (Elt F) → (⟨S8192x3328, .f32⟩ : BufTy).Contents (Elt F)),
    binary main_v13 main_v14 main_v15 (Host.divf : (⟨S8192x3328, .f32⟩ : BufTy).Contents (Elt F) → (⟨S8192x3328, .f32⟩ : BufTy).Contents (Elt F) → (⟨S8192x3328, .f32⟩ : BufTy).Contents (Elt F)),
    nullary main_v16 (iotaInDim S3328 32 0),
    unary main_v16 main_v17 (broadcastInDim S1x3328 ![1] bcast_S3328_S1x3328_1 : (⟨S3328, .i32⟩ : BufTy).Contents (Elt F) → (⟨S1x3328, .i32⟩ : BufTy).Contents (Elt F)),
    unary main_v11 main_v18 (broadcastInDim S8192x1 ![0] bcast_S8192_S8192x1_0 : (⟨S8192, .i32⟩ : BufTy).Contents (Elt F) → (⟨S8192x1, .i32⟩ : BufTy).Contents (Elt F)),
    unary main_v17 main_v19 (broadcastInDim S8192x3328 ![0, 1] bcast_S1x3328_S8192x3328_0_1 : (⟨S1x3328, .i32⟩ : BufTy).Contents (Elt F) → (⟨S8192x3328, .i32⟩ : BufTy).Contents (Elt F)),
    unary main_v18 main_v20 (broadcastInDim S8192x3328 ![0, 1] bcast_S8192x1_S8192x3328_0_1 : (⟨S8192x1, .i32⟩ : BufTy).Contents (Elt F) → (⟨S8192x3328, .i32⟩ : BufTy).Contents (Elt F)),
    binary main_v19 main_v20 main_v21 (cmpi .sge : (⟨S8192x3328, .i32⟩ : BufTy).Contents (Elt F) → (⟨S8192x3328, .i32⟩ : BufTy).Contents (Elt F) → (⟨S8192x3328, .i1⟩ : BufTy).Contents (Elt F)),
    unary main_v11 main_v22 (broadcastInDim S8192x1 ![0] bcast_S8192_S8192x1_0 : (⟨S8192, .i32⟩ : BufTy).Contents (Elt F) → (⟨S8192x1, .i32⟩ : BufTy).Contents (Elt F)),
    nullary main_c_3 (constantI S_ 32 128#32),
    unary main_c_3 main_v23 (broadcastInDim S8192x1 ![] bcast_S_S8192x1 : (⟨S_, .i32⟩ : BufTy).Contents (Elt F) → (⟨S8192x1, .i32⟩ : BufTy).Contents (Elt F)),
    binary main_v22 main_v23 main_v24 (addi : (⟨S8192x1, .i32⟩ : BufTy).Contents (Elt F) → (⟨S8192x1, .i32⟩ : BufTy).Contents (Elt F) → (⟨S8192x1, .i32⟩ : BufTy).Contents (Elt F)),
    unary main_v17 main_v25 (broadcastInDim S8192x3328 ![0, 1] bcast_S1x3328_S8192x3328_0_1 : (⟨S1x3328, .i32⟩ : BufTy).Contents (Elt F) → (⟨S8192x3328, .i32⟩ : BufTy).Contents (Elt F)),
    unary main_v24 main_v26 (broadcastInDim S8192x3328 ![0, 1] bcast_S8192x1_S8192x3328_0_1 : (⟨S8192x1, .i32⟩ : BufTy).Contents (Elt F) → (⟨S8192x3328, .i32⟩ : BufTy).Contents (Elt F)),
    binary main_v25 main_v26 main_v27 (cmpi .slt : (⟨S8192x3328, .i32⟩ : BufTy).Contents (Elt F) → (⟨S8192x3328, .i32⟩ : BufTy).Contents (Elt F) → (⟨S8192x3328, .i1⟩ : BufTy).Contents (Elt F)),
    binary main_v21 main_v27 main_v28 (andi : (⟨S8192x3328, .i1⟩ : BufTy).Contents (Elt F) → (⟨S8192x3328, .i1⟩ : BufTy).Contents (Elt F) → (⟨S8192x3328, .i1⟩ : BufTy).Contents (Elt F)),
    nullary main_cst_4 (constant S_ .f32 0xFF800000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S8192x3328, .f32⟩) main_call1_v1) (broadcastInDim S8192x3328 ![] bcast_S_S8192x3328),
    TRef.ternary (TRef.of (T := ⟨S8192x3328, .i1⟩) main_v28) (TRef.of (T := ⟨S8192x3328, .f32⟩) main_v15) (TRef.of (T := ⟨S8192x3328, .f32⟩) main_call1_v1) (TRef.of (T := ⟨S8192x3328, .f32⟩) main_v29) select,
    nullary main_cst_5 (constant S_ .f32 0xFF800000#32),
    binary main_v29 main_cst_5 main_v30 ((fun x v => Host.reduce FloatOps.maximumf x v reducesTo_S8192x3328_S8192_d1 h_S_) : (⟨S8192x3328, .f32⟩ : BufTy).Contents (Elt F) → (⟨S_, .f32⟩ : BufTy).Contents (Elt F) → (⟨S8192, .f32⟩ : BufTy).Contents (Elt F)),
    nullary main_cst_6 (constant S_ .f32 0xFF800000#32),
    unary main_cst_6 main_v31 (broadcastInDim S8192 ![] bcast_S_S8192 : (⟨S_, .f32⟩ : BufTy).Contents (Elt F) → (⟨S8192, .f32⟩ : BufTy).Contents (Elt F)),
    binary main_v31 main_v30 main_v32 (maximumf : (⟨S8192, .f32⟩ : BufTy).Contents (Elt F) → (⟨S8192, .f32⟩ : BufTy).Contents (Elt F) → (⟨S8192, .f32⟩ : BufTy).Contents (Elt F)),
    unary main_v32 main_v33 (broadcastInDim S8192x1 ![0] bcast_S8192_S8192x1_0 : (⟨S8192, .f32⟩ : BufTy).Contents (Elt F) → (⟨S8192x1, .f32⟩ : BufTy).Contents (Elt F)),
    unary main_v33 main_v34 (broadcastInDim S8192x3328 ![0, 1] bcast_S8192x1_S8192x3328_0_1 : (⟨S8192x1, .f32⟩ : BufTy).Contents (Elt F) → (⟨S8192x3328, .f32⟩ : BufTy).Contents (Elt F)),
    binary main_v29 main_v34 main_v35 (subf : (⟨S8192x3328, .f32⟩ : BufTy).Contents (Elt F) → (⟨S8192x3328, .f32⟩ : BufTy).Contents (Elt F) → (⟨S8192x3328, .f32⟩ : BufTy).Contents (Elt F)),
    unary main_v35 main_v36 (Host.exp : (⟨S8192x3328, .f32⟩ : BufTy).Contents (Elt F) → (⟨S8192x3328, .f32⟩ : BufTy).Contents (Elt F)),
    nullary main_cst_7 (constant S_ .f32 0x00000000#32),
    binary main_v36 main_cst_7 main_v37 ((fun x v => Host.reduceAdd x v reducesTo_S8192x3328_S8192_d1 h_S_) : (⟨S8192x3328, .f32⟩ : BufTy).Contents (Elt F) → (⟨S_, .f32⟩ : BufTy).Contents (Elt F) → (⟨S8192, .f32⟩ : BufTy).Contents (Elt F)),
    unary main_v37 main_v38 (broadcastInDim S8192x1 ![0] bcast_S8192_S8192x1_0 : (⟨S8192, .f32⟩ : BufTy).Contents (Elt F) → (⟨S8192x1, .f32⟩ : BufTy).Contents (Elt F)),
    unary main_v38 main_v39 (broadcastInDim S8192x3328 ![0, 1] bcast_S8192x1_S8192x3328_0_1 : (⟨S8192x1, .f32⟩ : BufTy).Contents (Elt F) → (⟨S8192x3328, .f32⟩ : BufTy).Contents (Elt F)),
    binary main_v36 main_v39 main_v40 (Host.divf : (⟨S8192x3328, .f32⟩ : BufTy).Contents (Elt F) → (⟨S8192x3328, .f32⟩ : BufTy).Contents (Elt F) → (⟨S8192x3328, .f32⟩ : BufTy).Contents (Elt F)),
    binary main_v40 main_arg2 main_v41 ((fun l r => Host.dotGeneral dot_S8192x3328_S3328x256_S8192x256_1_0_0_1_n_n none l r) : (⟨S8192x3328, .f32⟩ : BufTy).Contents (Elt F) → (⟨S3328x256, .f32⟩ : BufTy).Contents (Elt F) → (⟨S8192x256, .f32⟩ : BufTy).Contents (Elt F)),
    TRef.nullary (TRef.of (T := ⟨S8192x3328, .i32⟩) main_call2_v0) (iotaInDim S8192x3328 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S8192x3328, .f32⟩) main_v40) (TRef.of (T := ⟨S8192x3328, .i32⟩) main_call2_v0) (TRef.of (T := ⟨S_, .f32⟩) main_call2_cst) (TRef.of (T := ⟨S_, .i32⟩) main_call2_c) (TRef.of (T := ⟨S8192, .f32⟩) main_call2_v1_0) (fun x y u v j => (Host.argReduce reducer_argmax_f32_i32 x y u v reducesTo_S8192x3328_S8192_d1 h_S_ j).1),
    TRef.quaternary (TRef.of (T := ⟨S8192x3328, .f32⟩) main_v40) (TRef.of (T := ⟨S8192x3328, .i32⟩) main_call2_v0) (TRef.of (T := ⟨S_, .f32⟩) main_call2_cst) (TRef.of (T := ⟨S_, .i32⟩) main_call2_c) (TRef.of (T := ⟨S8192, .i32⟩) main_v42) (fun x y u v j => (Host.argReduce reducer_argmax_f32_i32 x y u v reducesTo_S8192x3328_S8192_d1 h_S_ j).2),
    TRef.binary (TRef.of (T := ⟨S3328x256, .f32⟩) main_arg2) (TRef.of (T := ⟨S3328x256, .f32⟩) main_arg2) (TRef.of (T := ⟨S3328x256, .f32⟩) main_call3_v0) mulf,
    TRef.nullary (TRef.of (T := ⟨S_, .f32⟩) main_call3_cst) (constant S_ .f32 0x00000000#32),
    TRef.binary (TRef.of (T := ⟨S3328x256, .f32⟩) main_call3_v0) (TRef.of (T := ⟨S_, .f32⟩) main_call3_cst) (TRef.of (T := ⟨S3328, .f32⟩) main_call3_v1) (fun x v => Host.reduceAdd x v reducesTo_S3328x256_S3328_d1 h_S_),
    TRef.unary (TRef.of (T := ⟨S3328, .f32⟩) main_call3_v1) (TRef.of (T := ⟨S3328x1, .f32⟩) main_call3_v2) (broadcastInDim S3328x1 ![0] bcast_S3328_S3328x1_0),
    TRef.unary (TRef.of (T := ⟨S3328x1, .f32⟩) main_call3_v2) (TRef.of (T := ⟨S3328x1, .f32⟩) main_v43) Host.sqrt,
    unary main_v43 main_v44 (broadcastInDim S3328x256 ![0, 1] bcast_S3328x1_S3328x256_0_1 : (⟨S3328x1, .f32⟩ : BufTy).Contents (Elt F) → (⟨S3328x256, .f32⟩ : BufTy).Contents (Elt F)),
    binary main_arg2 main_v44 main_v45 (Host.divf : (⟨S3328x256, .f32⟩ : BufTy).Contents (Elt F) → (⟨S3328x256, .f32⟩ : BufTy).Contents (Elt F) → (⟨S3328x256, .f32⟩ : BufTy).Contents (Elt F)),
    unary main_v45 main_v46 ((transpose S256x3328 [1, 0] · transposes_S3328x256_S256x3328_1_0) : (⟨S3328x256, .f32⟩ : BufTy).Contents (Elt F) → (⟨S256x3328, .f32⟩ : BufTy).Contents (Elt F)),
    binary main_v45 main_v46 main_v47 ((fun l r => Host.dotGeneral dot_S3328x256_S256x3328_S3328x3328_1_0_0_1_n_n none l r) : (⟨S3328x256, .f32⟩ : BufTy).Contents (Elt F) → (⟨S256x3328, .f32⟩ : BufTy).Contents (Elt F) → (⟨S3328x3328, .f32⟩ : BufTy).Contents (Elt F)),
    nullary main_v48 (iotaInDim S3328 32 0),
    unary main_v1 main_v49 (broadcastInDim S1x26 ![1] bcast_S26_S1x26_1 : (⟨S26, .i32⟩ : BufTy).Contents (Elt F) → (⟨S1x26, .i32⟩ : BufTy).Contents (Elt F)),
    unary main_v48 main_v50 (broadcastInDim S3328x1 ![0] bcast_S3328_S3328x1_0 : (⟨S3328, .i32⟩ : BufTy).Contents (Elt F) → (⟨S3328x1, .i32⟩ : BufTy).Contents (Elt F)),
    unary main_v49 main_v51 (broadcastInDim S3328x26 ![0, 1] bcast_S1x26_S3328x26_0_1 : (⟨S1x26, .i32⟩ : BufTy).Contents (Elt F) → (⟨S3328x26, .i32⟩ : BufTy).Contents (Elt F)),
    unary main_v50 main_v52 (broadcastInDim S3328x26 ![0, 1] bcast_S3328x1_S3328x26_0_1 : (⟨S3328x1, .i32⟩ : BufTy).Contents (Elt F) → (⟨S3328x26, .i32⟩ : BufTy).Contents (Elt F)),
    binary main_v51 main_v52 main_v53 (cmpi .sle : (⟨S3328x26, .i32⟩ : BufTy).Contents (Elt F) → (⟨S3328x26, .i32⟩ : BufTy).Contents (Elt F) → (⟨S3328x26, .i1⟩ : BufTy).Contents (Elt F)),
    unary main_v53 main_v54 ((extui 32 · natLt_1_32) : (⟨S3328x26, .i1⟩ : BufTy).Contents (Elt F) → (⟨S3328x26, .i32⟩ : BufTy).Contents (Elt F)),
    nullary main_c_8 (constantI S_ 32 0#32),
    binary main_v54 main_c_8 main_v55 ((fun x v => Host.reduce IntOp.addi x v reducesTo_S3328x26_S3328_d1 h_S_) : (⟨S3328x26, .i32⟩ : BufTy).Contents (Elt F) → (⟨S_, .i32⟩ : BufTy).Contents (Elt F) → (⟨S3328, .i32⟩ : BufTy).Contents (Elt F)),
    unary main_v55 main_v56 (broadcastInDim S1x3328 ![1] bcast_S3328_S1x3328_1 : (⟨S3328, .i32⟩ : BufTy).Contents (Elt F) → (⟨S1x3328, .i32⟩ : BufTy).Contents (Elt F)),
    unary main_v55 main_v57 (broadcastInDim S3328x1 ![0] bcast_S3328_S3328x1_0 : (⟨S3328, .i32⟩ : BufTy).Contents (Elt F) → (⟨S3328x1, .i32⟩ : BufTy).Contents (Elt F)),
    unary main_v56 main_v58 (broadcastInDim S3328x3328 ![0, 1] bcast_S1x3328_S3328x3328_0_1 : (⟨S1x3328, .i32⟩ : BufTy).Contents (Elt F) → (⟨S3328x3328, .i32⟩ : BufTy).Contents (Elt F)),
    unary main_v57 main_v59 (broadcastInDim S3328x3328 ![0, 1] bcast_S3328x1_S3328x3328_0_1 : (⟨S3328x1, .i32⟩ : BufTy).Contents (Elt F) → (⟨S3328x3328, .i32⟩ : BufTy).Contents (Elt F)),
    binary main_v58 main_v59 main_v60 (cmpi .eq : (⟨S3328x3328, .i32⟩ : BufTy).Contents (Elt F) → (⟨S3328x3328, .i32⟩ : BufTy).Contents (Elt F) → (⟨S3328x3328, .i1⟩ : BufTy).Contents (Elt F)),
    nullary main_v61 (iotaInDim S3328x3328 32 0),
    nullary main_v62 (iotaInDim S3328x3328 32 1),
    nullary main_c_9 (constantI S_ 32 0#32),
    unary main_c_9 main_v63 (broadcastInDim S3328x3328 ![] bcast_S_S3328x3328 : (⟨S_, .i32⟩ : BufTy).Contents (Elt F) → (⟨S3328x3328, .i32⟩ : BufTy).Contents (Elt F)),
    binary main_v61 main_v63 main_v64 (addi : (⟨S3328x3328, .i32⟩ : BufTy).Contents (Elt F) → (⟨S3328x3328, .i32⟩ : BufTy).Contents (Elt F) → (⟨S3328x3328, .i32⟩ : BufTy).Contents (Elt F)),
    binary main_v64 main_v62 main_v65 (cmpi .eq : (⟨S3328x3328, .i32⟩ : BufTy).Contents (Elt F) → (⟨S3328x3328, .i32⟩ : BufTy).Contents (Elt F) → (⟨S3328x3328, .i1⟩ : BufTy).Contents (Elt F)),
    nullary main_cst_10 (constant S_ .f32 0xFF800000#32),
    TRef.unary (TRef.of (T := ⟨S_, .f32⟩) main_cst_10) (TRef.of (T := ⟨S_, .f32⟩) main_call4_v0) id,
    TRef.unary (TRef.of (T := ⟨S_, .f32⟩) main_call4_v0) (TRef.of (T := ⟨S3328x3328, .f32⟩) main_call4_v1) (broadcastInDim S3328x3328 ![] bcast_S_S3328x3328),
    TRef.ternary (TRef.of (T := ⟨S3328x3328, .i1⟩) main_v65) (TRef.of (T := ⟨S3328x3328, .f32⟩) main_call4_v1) (TRef.of (T := ⟨S3328x3328, .f32⟩) main_v47) (TRef.of (T := ⟨S3328x3328, .f32⟩) main_v66) select,
    nullary main_cst_11 (constant S_ .f32 0x3D8F5C29#32),
    unary main_cst_11 main_v67 (broadcastInDim S3328x3328 ![] bcast_S_S3328x3328 : (⟨S_, .f32⟩ : BufTy).Contents (Elt F) → (⟨S3328x3328, .f32⟩ : BufTy).Contents (Elt F)),
    binary main_v66 main_v67 main_v68 (Host.divf : (⟨S3328x3328, .f32⟩ : BufTy).Contents (Elt F) → (⟨S3328x3328, .f32⟩ : BufTy).Contents (Elt F) → (⟨S3328x3328, .f32⟩ : BufTy).Contents (Elt F)),
    unary main_v68 main_v69 (Host.exp : (⟨S3328x3328, .f32⟩ : BufTy).Contents (Elt F) → (⟨S3328x3328, .f32⟩ : BufTy).Contents (Elt F)),
    nullary main_cst_12 (constant S_ .f32 0x00000000#32),
    binary main_v69 main_cst_12 main_v70 ((fun x v => Host.reduceAdd x v reducesTo_S3328x3328_S3328_d1 h_S_) : (⟨S3328x3328, .f32⟩ : BufTy).Contents (Elt F) → (⟨S_, .f32⟩ : BufTy).Contents (Elt F) → (⟨S3328, .f32⟩ : BufTy).Contents (Elt F)),
    unary main_v70 main_v71 (broadcastInDim S3328x1 ![0] bcast_S3328_S3328x1_0 : (⟨S3328, .f32⟩ : BufTy).Contents (Elt F) → (⟨S3328x1, .f32⟩ : BufTy).Contents (Elt F)),
    unary main_v60 main_v72 (uitofp .f32 : (⟨S3328x3328, .i1⟩ : BufTy).Contents (Elt F) → (⟨S3328x3328, .f32⟩ : BufTy).Contents (Elt F)),
    binary main_v69 main_v72 main_v73 (mulf : (⟨S3328x3328, .f32⟩ : BufTy).Contents (Elt F) → (⟨S3328x3328, .f32⟩ : BufTy).Contents (Elt F) → (⟨S3328x3328, .f32⟩ : BufTy).Contents (Elt F)),
    nullary main_cst_13 (constant S_ .f32 0x00000000#32),
    binary main_v73 main_cst_13 main_v74 ((fun x v => Host.reduceAdd x v reducesTo_S3328x3328_S3328_d1 h_S_) : (⟨S3328x3328, .f32⟩ : BufTy).Contents (Elt F) → (⟨S_, .f32⟩ : BufTy).Contents (Elt F) → (⟨S3328, .f32⟩ : BufTy).Contents (Elt F)),
    unary main_v74 main_v75 (broadcastInDim S3328x1 ![0] bcast_S3328_S3328x1_0 : (⟨S3328, .f32⟩ : BufTy).Contents (Elt F) → (⟨S3328x1, .f32⟩ : BufTy).Contents (Elt F)),
    binary main_v75 main_v71 main_v76 (Host.divf : (⟨S3328x1, .f32⟩ : BufTy).Contents (Elt F) → (⟨S3328x1, .f32⟩ : BufTy).Contents (Elt F) → (⟨S3328x1, .f32⟩ : BufTy).Contents (Elt F)),
    unary main_v76 main_v77 (Host.log : (⟨S3328x1, .f32⟩ : BufTy).Contents (Elt F) → (⟨S3328x1, .f32⟩ : BufTy).Contents (Elt F)),
    nullary main_cst_14 (constant S_ .f32 0x00000000#32),
    binary main_v77 main_cst_14 main_v78 ((fun x v => Host.reduceAdd x v reducesTo_S3328x1_S_d0_1 h_S_) : (⟨S3328x1, .f32⟩ : BufTy).Contents (Elt F) → (⟨S_, .f32⟩ : BufTy).Contents (Elt F) → (⟨S_, .f32⟩ : BufTy).Contents (Elt F)),
    nullary main_cst_15 (constant S_ .f32 0x45500000#32),
    binary main_v78 main_cst_15 main_v79 (Host.divf : (⟨S_, .f32⟩ : BufTy).Contents (Elt F) → (⟨S_, .f32⟩ : BufTy).Contents (Elt F) → (⟨S_, .f32⟩ : BufTy).Contents (Elt F)),
    unary main_v79 main_v80 (Host.negf : (⟨S_, .f32⟩ : BufTy).Contents (Elt F) → (⟨S_, .f32⟩ : BufTy).Contents (Elt F)),
    nullary main_cst_16 (constant S_ .f32 0x00000000#32) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., unary_bufs_sub .., unary_bufs_sub .., unary_bufs_sub .., binary_bufs_sub .., unary_bufs_sub .., nullary_bufs_sub .., unary_bufs_sub .., binary_bufs_sub .., unary_bufs_sub .., unary_bufs_sub .., binary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., nullary_bufs_sub .., nullary_bufs_sub .., quaternary_bufs_sub .., quaternary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., unary_bufs_sub .., unary_bufs_sub .., unary_bufs_sub .., binary_bufs_sub .., unary_bufs_sub .., nullary_bufs_sub .., binary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., unary_bufs_sub .., nullary_bufs_sub .., binary_bufs_sub .., unary_bufs_sub .., unary_bufs_sub .., binary_bufs_sub .., nullary_bufs_sub .., binary_bufs_sub .., unary_bufs_sub .., binary_bufs_sub .., unary_bufs_sub .., nullary_bufs_sub .., binary_bufs_sub .., nullary_bufs_sub .., binary_bufs_sub .., unary_bufs_sub .., nullary_bufs_sub ..⟩

variable (m : (ℓ : Loc nD τ sig) → Buf (Elt F) ℓ) (ρ : Dev nD → PrngReg)

set_option maxRecDepth 8192 in
set_option maxHeartbeats 48800000 in
/-- The run: each result is its function of the arguments, and the arguments are unchanged. -/
theorem run :
    θ_run defs (onTc (τ := τ) (main (F := F))) ⟨m, fun _ => 0, ρ⟩ fun r => ∀ c : Dev nD,
      r.2.mem ((c.tc : Thread nD τ).loc main_v41) = quantRef (m ((c.tc : Thread nD τ).loc main_arg0)) (m ((c.tc : Thread nD τ).loc main_arg1)) (m ((c.tc : Thread nD τ).loc main_arg2))
      ∧ r.2.mem ((c.tc : Thread nD τ).loc main_cst_16) = constant S_ .f32 0x00000000#32
      ∧ r.2.mem ((c.tc : Thread nD τ).loc main_v80) = lossRef (m ((c.tc : Thread nD τ).loc main_arg2))
      ∧ r.2.mem ((c.tc : Thread nD τ).loc main_v42) = indexRef (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      (h c main_v41).trans (by simp only [ops, TRef.binary, TRef.nullary, TRef.ternary, TRef.quaternary, TRef.unary, TRef.toBuf, TRef.ofBuf, cast_eq]; after_results_simp <;> rfl),
      (h c main_cst_16).trans (by simp only [ops, TRef.binary, TRef.nullary, TRef.ternary, TRef.quaternary, TRef.unary, TRef.toBuf, TRef.ofBuf, cast_eq]; after_results_simp <;> rfl),
      (h c main_v80).trans (by simp only [ops, TRef.binary, TRef.nullary, TRef.ternary, TRef.quaternary, TRef.unary, TRef.toBuf, TRef.ofBuf, cast_eq]; after_results_simp <;> rfl),
      (h c main_v42).trans (by simp only [ops, TRef.binary, TRef.nullary, TRef.ternary, TRef.quaternary, TRef.unary, TRef.toBuf, TRef.ofBuf, cast_eq]; after_results_simp <;> rfl),
      (h c main_arg0).trans (by simp only [ops, TRef.binary, TRef.nullary, TRef.ternary, TRef.quaternary, TRef.unary, TRef.toBuf, TRef.ofBuf, cast_eq]; after_results_simp <;> rfl),
      (h c main_arg1).trans (by simp only [ops, TRef.binary, TRef.nullary, TRef.ternary, TRef.quaternary, TRef.unary, TRef.toBuf, TRef.ofBuf, cast_eq]; after_results_simp <;> rfl),
      (h c main_arg2).trans (by simp only [ops, TRef.binary, TRef.nullary, TRef.ternary, TRef.quaternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Ref

end
-- ==== Proof.Claims.Frames.lean ====
/-
The frames of the three programs, and what the one named constant stands for.
-/
module

public import proofs.«01_k».proof.Defs
public import proofs.«01_k».proof.Proof.Word.Run.Frame
public import proofs.«01_k».proof.Proof.Run.Frame
public import proofs.«01_k».proof.Proof.Ref.Run
public import Idealize.ShloMosaic.Lib.Quiescent

@[expose] public section

noncomputable section

open Idealize.ShloMosaic Idealize.ShloMosaic.TcCoe Idealize.SL.Sem

namespace Cert.Proof.Claims

/-- The kernel runs, keeps its arguments and ends with every counter at zero. -/
theorem frame_kernel : Cert.quiescent_Kernel := fun m ρ _ => Cert.Kernel.Run.frame m ρ

/-- So does the kernel over the extended reals. -/
theorem frame_ideal : Cert.quiescent_KernelIdeal := fun m ρ _ => Cert.KernelIdeal.Run.frame m ρ

/-- So does the reference over the extended reals. -/
theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Ref.run (F := Ideal) m ρ)

/-- The named constant is the reciprocal of the number that the reference's temperature literal is. -/
theorem preserves : Cert.preserves_Kernel_KernelIdeal :=
  IdealRules.named_const.statement Cert.KernelIdeal.κ "inv_temp" .f32 0x41649249#32 ((134217728 / 9395241 : ℝ) : EReal) rfl

end Cert.Proof.Claims

end
-- ==== Proof.Math.Real.lean ====
/- Facts about sums and maxima of extended reals that the two programs share. -/
module

public import Idealize.ShloMosaic.Lib.Pointwise

@[expose] public section

namespace Cert.Proof.Math

open Idealize.ShloMosaic

/-- A sum of reals read as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of reals read as extended reals. -/
theorem coe_dot {ι : Type} (s : Finset ι) (f g : ι → ℝ) :
    ∑ i ∈ s, ((f i : ℝ) : EReal) * ((g i : ℝ) : EReal) = ((∑ i ∈ s, f i * g i : ℝ) : EReal) := by
  rw [← coe_sum]
  exact Finset.sum_congr rfl fun i _ => (EReal.coe_mul _ _).symm

/-- A quotient of reals read as an extended real. -/
theorem coe_quot (a b : ℝ) (hb : b ≠ 0) : Ideal.div (a : EReal) (b : EReal) = ((a / b : ℝ) : EReal) := by
  rw [Ideal.div_coe hb, ← EReal.coe_mul]
  congr 1
  rw [mul_one_div]

/-- A real or zero, read as an extended real. -/
theorem coe_ite (P : Prop) [Decidable P] (a : ℝ) : (if P then (a : EReal) else 0) = ((if P then a else 0 : ℝ) : EReal) := by
  by_cases h : P <;> simp [h]

/-- The largest of finitely many extended reals. -/
theorem fold_max {ι : Type} (s : Finset ι) (f : ι → EReal) (i : ι) (hi : i ∈ s) (h : ∀ k ∈ s, f k ≤ f i) : s.fold max ⊥ f = f i :=
  le_antisymm ((Finset.fold_max_le _).mpr ⟨bot_le, h⟩) ((Finset.le_fold_max _).mpr (Or.inr ⟨i, hi, le_refl _⟩))

/-- The first place at which finitely many reals are largest. -/
theorem exists_first {n : ℕ} (hn : 0 < n) (l : Fin n → ℝ) : ∃ c : Fin n, (∀ k, l k ≤ l c) ∧ ∀ k, l k = l c → c ≤ k := by
  have : Nonempty (Fin n) := ⟨⟨0, hn⟩⟩
  obtain ⟨m, hm⟩ := Finite.exists_max l
  let S := Finset.univ.filter fun k => l k = l m
  have hS : S.Nonempty := ⟨m, by simp [S]⟩
  have hc : S.min' hS ∈ S := Finset.min'_mem S hS
  have hc' : l (S.min' hS) = l m := by simpa [S] using hc
  refine ⟨S.min' hS, fun k => hc' ▸ hm k, fun k hk => Finset.min'_le S k ?_⟩
  simp [S, hk, hc']

/-- The sum over one group of 128. -/
theorem sum_group {M : Type} [AddCommMonoid M] {N : ℕ} (K : ℕ) (hN : K * 128 = N) (f : Fin N → M) (p : ℕ) (hp : p < K) :
    ∑ n : Fin N, (if n.val / 128 = p then f n else 0) = ∑ c : Fin 128, f ⟨128 * p + c.val, by omega⟩ := by
  subst hN
  rw [← Equiv.sum_comp finProdFinEquiv, Fintype.sum_prod_type, Finset.sum_eq_single (⟨p, hp⟩ : Fin K)]
  · refine Finset.sum_congr rfl fun c _ => ?_
    have e : (finProdFinEquiv ((⟨p, hp⟩ : Fin K), c)).val = c.val + 128 * p := rfl
    rw [if_pos (by rw [e]; omega)]
    exact congrArg f (Fin.ext (by rw [e]; exact Nat.add_comm _ _))
  · intro b _ hb
    refine Finset.sum_eq_zero fun c _ => if_neg ?_
    have e : (finProdFinEquiv (b, c)).val = c.val + 128 * b.val := rfl
    rw [e]
    intro h
    exact hb (Fin.ext (by show b.val = p; omega))
  · intro h
    exact absurd (Finset.mem_univ _) h

end Cert.Proof.Math

end
-- ==== Proof.Math.Pre.lean ====
/- What the precondition says of the three arguments. -/
module

public import proofs.«01_k».proof.Pre_normalised_in_range
public import proofs.«01_k».proof.Proof.Math.Real

@[expose] public section

set_option maxRecDepth 16384

namespace Cert.Proof.Math

open Idealize.ShloMosaic Idealize.ShloMosaic.Pointwise Cert.Pre_normalised_in_range

variable [Facts]

theorem bit_one (b : Bool) (h : BitVec.ofBool b = 1#1) : b = true := by cases b <;> simp_all

/-- An extended real whose absolute value is below infinity is a real. -/
theorem real_of_abs (a : EReal) (h : max a (-a) < ⊤) : a = ((a.toReal : ℝ) : EReal) := by
  refine (EReal.coe_toReal ?_ ?_).symm
  · rintro rfl; simp at h
  · rintro rfl; simp at h

theorem pre_x (x : FVec Ideal S8192x256 .f32) (Q : IVec S8192 32) (E : FVec Ideal S3328x256 .f32)
    (h : (fn (F := Ideal) x Q E).1 = fun _ => 1#1) (r : Fin 8192) (k : Fin 256) :
    x (ix2 r k) = (((x (ix2 r k) : EReal).toReal : ℝ) : EReal) := by
  have h1 := congrFun h (ix2 r k)
  have h2 : Ideal.cmp .olt (max (x (ix2 r k) : EReal) (-(x (ix2 r k) : EReal))) (Ideal.ofBits .f32 0x7F800000#32) = 1#1 := h1
  have ht : Ideal.ofBits .f32 0x7F800000#32 = ⊤ := by simp [Ideal.ofBits, Ideal.ieee]
  rw [ht] at h2
  have h3 := bit_one _ h2
  exact real_of_abs _ (by simpa using h3)

theorem pre_q (x : FVec Ideal S8192x256 .f32) (Q : IVec S8192 32) (E : FVec Ideal S3328x256 .f32)
    (h : (fn (F := Ideal) x Q E).2.1 = fun _ => 1#1) (r : Fin 8192) : ∃ p, p < 26 ∧ Q (ix1 r) = BitVec.ofNat 32 p := by
  have h1 := congrFun h (ix1 r)
  have h2 : IntOp.andi (IntOp.cmpi .sge (Q (ix1 r)) 0#32) (IntOp.cmpi .slt (Q (ix1 r)) 26#32) = 1#1 := h1
  generalize Q (ix1 r) = q at h2
  have h3 : (0#32).sle q = true ∧ q.slt 26#32 = true := by
    revert h2
    simp only [IntOp.andi, IntOp.cmpi]
    cases (0#32).sle q <;> cases q.slt 26#32 <;> simp
  obtain ⟨ha, hb⟩ := h3
  rw [BitVec.sle, decide_eq_true_eq] at ha
  rw [BitVec.slt, decide_eq_true_eq] at hb
  have hc : (0#32).toInt = 0 := by decide
  have hd : (26#32).toInt = 26 := by decide
  rw [hc] at ha
  rw [hd] at hb
  refine ⟨q.toNat, ?_, by simp⟩
  have := BitVec.toInt_eq_toNat_cond q
  have h4 := q.isLt
  split at this <;> omega

/-- A square is not negative. -/
theorem sq_nonneg' (a : EReal) : 0 ≤ a * a := by
  rcases le_total 0 a with h | h
  · exact mul_nonneg h h
  · exact EReal.mul_nonneg_iff.mpr (Or.inr ⟨h, h⟩)

/-- Where the squares sum to a real, the entries are reals. -/
theorem real_of_squares {n : ℕ} (f : Fin n → EReal) (h : ∑ d, f d * f d = 1) (k : Fin n) : f k = (((f k).toReal : ℝ) : EReal) := by
  have h1 : f k * f k ≤ 1 := h ▸ Finset.single_le_sum (f := fun d => f d * f d) (fun d _ => sq_nonneg' (f d)) (Finset.mem_univ k)
  refine (EReal.coe_toReal ?_ ?_).symm
  · intro e; rw [e] at h1; simp at h1; exact EReal.coe_ne_top 1 h1
  · intro e; rw [e] at h1; simp at h1; exact EReal.coe_ne_top 1 h1

theorem pre_norm (x : FVec Ideal S8192x256 .f32) (Q : IVec S8192 32) (E : FVec Ideal S3328x256 .f32)
    (h : (fn (F := Ideal) x Q E).2.2 = fun _ => 1#1) (n : Fin 3328) : ∑ d : Fin 256, (E (ix2 n d) * E (ix2 n d) : EReal) = 1 := by
  have h1 := congrFun h (ix1 n)
  pointwise [fn] at h1
  exact of_decide_eq_true (bit_one _ h1)

end Cert.Proof.Math

end
-- ==== Proof.Math.Arg.lean ====
/- The place of the largest entry, as each program finds it. -/
module

public import proofs.«01_k».proof.Proof.Ref.Stages
public import Idealize.ShloMosaic.Lib.Pointwise

@[expose] public section

set_option maxRecDepth 16384

namespace Cert.Proof.Math

open Idealize.ShloMosaic Idealize.ShloMosaic.Pointwise Cert.ReferenceIdeal Cert.ReferenceIdeal.Gen

/-- One pair is at most another: a smaller value, or the same value at a later place. -/
def Beaten (e p : EReal × BitVec 32) : Prop := e.1 < p.1 ∨ (e.1 = p.1 ∧ p.2.toInt ≤ e.2.toInt)

theorem Beaten.refl (e : EReal × BitVec 32) : Beaten e e := Or.inr ⟨rfl, le_refl _⟩

theorem Beaten.trans {a b c : EReal × BitVec 32} (h : Beaten a b) (h' : Beaten b c) : Beaten a c := by
  rcases h with h | ⟨h, k⟩ <;> rcases h' with h' | ⟨h', k'⟩
  · exact Or.inl (h.trans h')
  · exact Or.inl (h' ▸ h)
  · exact Or.inl (h ▸ h')
  · exact Or.inr ⟨h.trans h', k'.trans k⟩

/-- The body of the search keeps one of its two pairs, the better. -/
theorem argmax_body (a b : EReal × BitVec 32) :
    (reducer_argmax_f32_i32 (F := Ideal) a b = a ∧ Beaten b a) ∨ (reducer_argmax_f32_i32 (F := Ideal) a b = b ∧ Beaten a b) := by
  obtain ⟨x, i⟩ := a
  obtain ⟨y, j⟩ := b
  have hs : ∀ (c : Bool) {α : Type} (u v : α), Scalar.select (BitVec.ofBool c) u v = if c then u else v := by
    intro c α u v; cases c <;> rfl
  have body : reducer_argmax_f32_i32 (F := Ideal) (x, i) (y, j)
      = (if y < x then x else y, if y < x ∨ (x = y ∧ i.slt j = true) then i else j) := by
    show (Scalar.select (Scalar.ori (Ideal.cmp .ogt x y) (Ideal.cmp .une x x)) x y,
      Scalar.select (Scalar.ori (Scalar.ori (Ideal.cmp .ogt x y) (Ideal.cmp .une x x))
        (Scalar.andi (Ideal.cmp .oeq x y) (Scalar.cmpi .slt i j))) i j) = _
    simp only [Ideal.cmp, Scalar.ori, Scalar.andi, Scalar.cmpi, IntOp.ori, IntOp.andi, IntOp.cmpi]
    by_cases h : y < x <;> by_cases e : x = y <;> cases i.slt j <;> simp [h, e, Scalar.select]
  rw [body]
  by_cases h : y < x
  · left
    refine ⟨by simp [h], Or.inl h⟩
  · by_cases e : x = y
    · subst e
      by_cases k : i.slt j = true
      · left
        refine ⟨by simp [k], Or.inr ⟨rfl, ?_⟩⟩
        rw [BitVec.slt, decide_eq_true_eq] at k
        exact le_of_lt k
      · right
        refine ⟨by simp [k], Or.inr ⟨rfl, ?_⟩⟩
        rw [BitVec.slt, decide_eq_true_eq] at k
        exact le_of_not_gt k
    · right
      exact ⟨by simp [h, e], Or.inl (lt_of_le_of_ne (le_of_not_gt h) e)⟩

/-- The search over a list keeps one of its pairs, which no other beats. -/
theorem argmax_fold (L : List (EReal × BitVec 32)) : ∀ a : EReal × BitVec 32,
    (L.foldl (reducer_argmax_f32_i32 (F := Ideal)) a = a ∨ L.foldl (reducer_argmax_f32_i32 (F := Ideal)) a ∈ L)
      ∧ ∀ e, e = a ∨ e ∈ L → Beaten e (L.foldl (reducer_argmax_f32_i32 (F := Ideal)) a) := by
  induction L with
  | nil => intro a; exact ⟨Or.inl rfl, fun e h => (h.resolve_right (List.not_mem_nil)) ▸ Beaten.refl e⟩
  | cons b L ih =>
    intro a
    rw [List.foldl_cons]
    obtain ⟨h1, h2⟩ := ih (reducer_argmax_f32_i32 (F := Ideal) a b)
    rcases argmax_body a b with ⟨e, k⟩ | ⟨e, k⟩
    · rw [e] at h1 h2 ⊢
      refine ⟨h1.imp id (List.mem_cons_of_mem _), fun x hx => ?_⟩
      rcases hx with hx | hx
      · exact h2 x (Or.inl hx)
      · rcases List.mem_cons.mp hx with hx | hx
        · exact hx ▸ k.trans (h2 a (Or.inl rfl))
        · exact h2 x (Or.inr hx)
    · rw [e] at h1 h2 ⊢
      refine ⟨Or.inr (h1.elim (fun h => List.mem_cons.mpr (Or.inl h)) (List.mem_cons_of_mem _)), fun x hx => ?_⟩
      rcases hx with hx | hx
      · exact hx ▸ k.trans (h2 b (Or.inl rfl))
      · rcases List.mem_cons.mp hx with hx | hx
        · exact h2 x (Or.inl hx)
        · exact h2 x (Or.inr hx)

theorem toInt_small (c : ℕ) (hc : c < 2 ^ 31) : (BitVec.ofNat 32 c).toInt = c := by
  rw [BitVec.toInt_eq_toNat_of_lt]
  · simp only [BitVec.toNat_ofNat]; norm_cast; omega
  · simp only [BitVec.toNat_ofNat]; omega

/-- The pairs that a search along the second axis looks at. -/
theorem mem_fiber {n0 n1 : ℕ} (s : FVec Ideal ⟨2, ![n0, n1]⟩ .f32) (y : IVec ⟨2, ![n0, n1]⟩ 32)
    (h : (⟨2, ![n0, n1]⟩ : Shape).ReducesTo [1] ⟨1, ![n0]⟩) (r : Fin n0) (e : EReal × BitVec 32) :
    e ∈ Host.argReduceFiber s y h (ix1 r) ↔ ∃ k : Fin n1, e = (s (ix2 r k), y (ix2 r k)) := by
  unfold Host.argReduceFiber
  simp only [List.mem_map, List.mem_filter, List.mem_finRange, true_and, decide_eq_true_eq]
  constructor
  · rintro ⟨a, ha, rfl⟩
    obtain ⟨k, hk⟩ := (h.fiber_r2_a1 (ix1 r) _).mp ha
    exact ⟨k, by rw [← hk]; rfl⟩
  · rintro ⟨k, rfl⟩
    refine ⟨Shape.rowMajor _ (ix2 r k), ?_, by rw [Equiv.symm_apply_apply]⟩
    rw [Equiv.symm_apply_apply]
    exact (h.fiber_r2_a1 (ix1 r) _).mpr ⟨k, rfl⟩

/-- The search along each row of a matrix of any size. -/
noncomputable def rowArg {n0 n1 : ℕ} {u : Shape} (s : FVec Ideal ⟨2, ![n0, n1]⟩ .f32) (y : IVec ⟨2, ![n0, n1]⟩ 32) (ix : FVec Ideal u .f32)
    (iy : IVec u 32) (h : (⟨2, ![n0, n1]⟩ : Shape).ReducesTo [1] ⟨1, ![n0]⟩) (hu : 0 < u.numel) : IVec ⟨1, ![n0]⟩ 32 :=
  fun j => (Host.argReduce (reducer_argmax_f32_i32 (F := Ideal)) s y ix iy h hu j).2

/-- The reference's search: the first place along a row at which the row is largest. -/
theorem argReduce_at {n0 n1 : ℕ} (hn1 : n1 < 2 ^ 31) {u : Shape} (s : FVec Ideal ⟨2, ![n0, n1]⟩ .f32) (y : IVec ⟨2, ![n0, n1]⟩ 32)
    (ix : FVec Ideal u .f32) (iy : IVec u 32) (h : (⟨2, ![n0, n1]⟩ : Shape).ReducesTo [1] ⟨1, ![n0]⟩) (hu : 0 < u.numel)
    (hx : ∀ i, ix i = (⊥ : EReal)) (r : Fin n0) (hy : ∀ k : Fin n1, y (ix2 r k) = BitVec.ofNat 32 k.val)
    (n : Fin n1) (hb : s (ix2 r n) ≠ (⊥ : EReal))
    (hm : ∀ k : Fin n1, (s (ix2 r k) : EReal) ≤ s (ix2 r n)) (hf : ∀ k : Fin n1, (s (ix2 r k) : EReal) = s (ix2 r n) → n ≤ k) :
    rowArg s y ix iy h hu (ix1 r) = BitVec.ofNat 32 n.val := by
  unfold rowArg
  rw [Ideal.argReduce_eq_reduce2, Host.reduce2_eq_foldl_fiber]
  have hmem := mem_fiber s y h r
  generalize Host.argReduceFiber s y h (ix1 r) = L at hmem ⊢
  rw [hx]
  generalize iy _ = z
  obtain ⟨h1, h2⟩ := argmax_fold L ((⊥ : EReal), z)
  have hn := h2 (s (ix2 r n), BitVec.ofNat 32 n.val) (Or.inr ((hmem _).mpr ⟨n, by rw [hy]⟩))
  rcases h1 with h1 | h1
  · rw [h1] at hn
    rcases hn with hn | ⟨hn, _⟩
    · exact absurd hn not_lt_bot
    · exact absurd hn hb
  · obtain ⟨k, hk⟩ := (hmem _).mp h1
    rw [hk, hy] at hn
    refine (congrArg Prod.snd hk).trans ?_
    rw [hy]
    rcases hn with hn | ⟨hn, hi⟩
    · exact absurd (hm k) (not_le_of_gt hn)
    · have h3 := hf k hn.symm
      have hk' := k.isLt
      have hn' := n.isLt
      have hi' := hi
      simp only [] at hi'
      rw [toInt_small _ (by omega), toInt_small _ (by omega)] at hi'
      have h4 : n = k := Fin.ext (by have : n.val ≤ k.val := h3; omega)
      rw [h4]

theorem columns_at (r : Fin 8192) (k : Fin 3328) : iotaInDim S8192x3328 32 1 (ix2 r k) = BitVec.ofNat 32 k.val := by
  pointwise

theorem argRef_first (i : S_.Idx) : constant (F := Ideal) S_ .f32 0xFF800000#32 i = (⊥ : EReal) := by
  simp [constant, FloatOps.ofBits, Ideal.ofBits, Ideal.ieee]

theorem argRef_eq (s : FVec Ideal S8192x3328 .f32) :
    Ref.argRef s = rowArg s (iotaInDim S8192x3328 32 1) (constant S_ .f32 0xFF800000#32) (constantI S_ 32 0#32)
      reducesTo_S8192x3328_S8192_d1 h_S_ := rfl

theorem argRef_at (s : FVec Ideal S8192x3328 .f32) (r : Fin 8192) (n : Fin 3328) (hb : s (ix2 r n) ≠ (⊥ : EReal))
    (hm : ∀ k : Fin 3328, (s (ix2 r k) : EReal) ≤ s (ix2 r n)) (hf : ∀ k : Fin 3328, (s (ix2 r k) : EReal) = s (ix2 r n) → n ≤ k) :
    Ref.argRef s (ix1 r) = BitVec.ofNat 32 n.val := by
  rw [argRef_eq]
  exact argReduce_at (by norm_num) s _ _ _ _ _ argRef_first r (fun k => columns_at r k) n hb hm hf

/-- The least of some small words. -/
theorem fold_min (s : Finset (Fin 128)) (g : Fin 128 → ℕ) (hg : ∀ k, g k < 2 ^ 31) :
    s.fold IntOp.minsi 2147483647#32 (fun k => BitVec.ofNat 32 (g k)) = BitVec.ofNat 32 (s.fold min 2147483647 g) := by
  classical
  induction s using Finset.induction_on with
  | empty => simp
  | insert a s ha ih =>
    have hlt : s.fold min 2147483647 g < 2 ^ 31 := lt_of_le_of_lt ((Finset.fold_min_le 2147483647).mpr (Or.inl (le_refl _))) (by norm_num)
    have ha' := hg a
    rw [Finset.fold_insert ha, Finset.fold_insert ha, ih, IntOp.minsi]
    by_cases h : g a < s.fold min 2147483647 g
    · rw [min_eq_left h.le, if_pos]
      rw [BitVec.slt, decide_eq_true_eq, toInt_small _ ha', toInt_small _ hlt]
      exact_mod_cast h
    · rw [min_eq_right (le_of_not_gt h), if_neg]
      rw [BitVec.slt, decide_eq_true_eq, toInt_small _ ha', toInt_small _ hlt]
      exact_mod_cast h

/-- The kernel's column: the first at which a row equals its largest entry. -/
theorem fold_first (P : Fin 128 → Prop) [DecidablePred P] (c : Fin 128) (hc : P c) (hf : ∀ k, P k → c ≤ k) :
    Finset.univ.fold IntOp.minsi 2147483647#32 (fun k : Fin 128 => if P k then BitVec.ofNat 32 k.val else 128#32) = BitVec.ofNat 32 c.val := by
  have e : (fun k : Fin 128 => if P k then BitVec.ofNat 32 k.val else 128#32) = fun k => BitVec.ofNat 32 (if P k then k.val else 128) := by
    funext k; by_cases h : P k <;> simp [h]
  rw [e, fold_min _ _ (fun k => by by_cases h : P k <;> simp [h]; omega)]
  congr 1
  refine le_antisymm ((Finset.fold_min_le _).mpr (Or.inr ⟨c, Finset.mem_univ _, by simp [hc]⟩)) ((Finset.le_fold_min _).mpr ⟨by omega, fun k _ => ?_⟩)
  by_cases h : P k
  · simpa [h] using hf k h
  · simp [h]

end Cert.Proof.Math

end
-- ==== Proof.Val.Index.lean ====
/- The kernel's functions of its blocks, entry by entry. -/
module

public import proofs.«01_k».proof.Proof.Val.Body
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.ShloMosaic.Pointwise

section Any

variable {F : FTy → Type} [FloatOps F] [Named F]

/-- The mask of a type, at an entry. -/
theorem tyMask_at (q : IVec S1024x1 32) (k : ℕ) (hk : k < 8) (n : ℕ) (hn : n < 26) (r c : Fin 128) (p : ℕ) (hp : p < 26)
    (hq : q (ix2 ⟨128 * k + r.val, by omega⟩ 0) = BitVec.ofNat 32 p) :
    tyMask q k hk n (ix2 r c) = if p = n then 1#1 else 0#1 := by
  pointwise [tyMask]
  rw [hq]
  have h : (BitVec.ofNat 32 p = BitVec.ofNat 32 n) ↔ p = n := by
    constructor
    · intro h
      have := congrArg BitVec.toNat h
      simp only [BitVec.toNat_ofNat] at this
      omega
    · rintro rfl; rfl
  by_cases e : p = n
  · subst e; simp [IntOp.cmpi]
  · have h' : ¬BitVec.ofNat 32 p = BitVec.ofNat 32 n := fun h' => e (h.mp h')
    simp [IntOp.cmpi, beq_eq_false_iff_ne.mpr h', e]

/-- The logits picked so far, at an entry. -/
theorem pick_at (q : IVec S1024x1 32) (L : FVec F S1024x3328 .f32) (k : ℕ) (hk : k < 8) (r c : Fin 128) (p : ℕ) (hp : p < 26)
    (hq : q (ix2 ⟨128 * k + r.val, by omega⟩ 0) = BitVec.ofNat 32 p) : ∀ (n : ℕ) (hn : n ≤ 26),
    pick q L k hk n hn (ix2 r c) = if p < n then L (ix2 ⟨128 * k + r.val, by omega⟩ ⟨128 * p + c.val, by omega⟩) else FloatOps.ofBits .f32 0x00000000#32
  | 0, _ => by simp [pick]; rfl
  | n + 1, h => by
    have ih := pick_at q L k hk r c p hp hq n (Nat.le_of_succ_le h)
    have hm := tyMask_at q k hk n (by omega) r c p hp hq
    pointwise [pick]
    rw [ih, hm]
    by_cases e : p = n
    · subst e
      simp [Scalar.select]
    · simp only [if_neg e, Scalar.select]
      have h' : p < n + 1 ↔ p < n := by omega
      simp only [h']
      simp

/-- The row's own logits, at an entry. -/
theorem lsel_at (q : IVec S1024x1 32) (L : FVec F S1024x3328 .f32) (r : Fin 1024) (c : Fin 128) (p : ℕ) (hp : p < 26)
    (hq : q (ix2 r 0) = BitVec.ofNat 32 p) :
    lsel q L (ix2 r c) = L (ix2 r ⟨128 * p + c.val, by omega⟩) := by
  have e : r = ⟨128 * (r.val / 128) + r.val % 128, by omega⟩ := Fin.ext (by simp only; omega)
  have h := pick_at q L (r.val / 128) (by omega) ⟨r.val % 128, by omega⟩ c p hp (by rw [← hq]; exact congrArg (fun r => q (ix2 r 0)) e.symm) 26 (Nat.le_refl 26)
  unfold lsel
  refine (Idealize.ShloMosaic.concatenate_ofFn_apply (t := S1024x128) (s₁ := S128x128) 0 (fun k : Fin 8 => pick q L k.val k.isLt 26 (Nat.le_refl 26)) _ rfl 128 rfl
    (ix2 r c) ⟨r.val / 128, by omega⟩ rfl (ix2 ⟨r.val % 128, by omega⟩ c) rfl (fun b hb => match b, hb with
      | ⟨0, _⟩, hb => absurd rfl hb
      | ⟨1, _⟩, _ => rfl)).trans ?_
  rw [h, if_pos hp]
  exact congrArg (fun r => L (ix2 r _)) e.symm

/-- The weights laid out, at an entry. -/
theorem laid_at (q : IVec S1024x1 32) (w : FVec F S1024x128 .bf16) (r : Fin 1024) (n : Fin 3328) (p : ℕ) (hp : p < 26)
    (hq : q (ix2 r 0) = BitVec.ofNat 32 p) :
    laid q w (ix2 r n) = if n.val / 128 = p then w (ix2 r ⟨n.val % 128, by omega⟩) else FloatOps.ofBits .bf16 0x0000#16 := by
  have e : r = ⟨128 * (r.val / 128) + r.val % 128, by omega⟩ := Fin.ext (by simp only; omega)
  have hm := tyMask_at q (r.val / 128) (by omega) (n.val / 128) (by omega) ⟨r.val % 128, by omega⟩ ⟨n.val % 128, by omega⟩ p hp
    (by rw [← hq]; exact congrArg (fun r => q (ix2 r 0)) e.symm)
  have hk : r.val / 128 < 8 := by omega
  unfold laid
  refine (Idealize.ShloMosaic.concatenate_ofFn_apply (t := S1024x3328) (s₁ := S128x3328) 0 (fun k : Fin 8 => laidRow q w k.val k.isLt) _ rfl 128 rfl
    (ix2 r n) ⟨r.val / 128, by omega⟩ rfl (ix2 ⟨r.val % 128, by omega⟩ n) rfl (fun b hb => match b, hb with
      | ⟨0, _⟩, hb => absurd rfl hb
      | ⟨1, _⟩, _ => rfl)).trans ?_
  unfold laidRow
  refine (Idealize.ShloMosaic.concatenate_ofFn_apply (t := S128x3328) (s₁ := S128x128) 1 (fun n : Fin 26 => select (tyMask q (r.val / 128) hk n.val)
      (extractStridedSlice S128x128 ![128 * (r.val / 128), 0] w (sle (r.val / 128) hk)) (broadcast S128x128 (FloatOps.ofBits .bf16 0x0000#16))) _ rfl 128 rfl
    (ix2 ⟨r.val % 128, by omega⟩ n) ⟨n.val / 128, by omega⟩ rfl (ix2 ⟨r.val % 128, by omega⟩ ⟨n.val % 128, by omega⟩) rfl (fun b hb => match b, hb with
      | ⟨0, _⟩, _ => rfl
      | ⟨1, _⟩, hb => absurd rfl hb)).trans ?_
  pointwise
  rw [hm]
  by_cases h : n.val / 128 = p
  · rw [if_pos h.symm, if_pos h]
    exact congrArg (fun r => w (ix2 r _)) e.symm
  · rw [if_neg (fun h' => h h'.symm), if_neg h]
    rfl

end Any

/-- A row's largest logit. -/
theorem rmax_at (l : FVec Ideal S1024x128 .f32) (r : Fin 1024) (c : Fin 128) :
    rmax l (ix2 r c) = Finset.univ.fold max ⊥ fun k : Fin 128 => l (ix2 r k) := by
  pointwise [rmax]
  rw [show Ideal.ofBits FTy.f32 4286578688#32 = ⊥ by simp [Ideal.ofBits, Ideal.ieee]]

theorem wts_at (l : FVec Ideal S1024x128 .f32) (r : Fin 1024) (c : Fin 128) :
    wts l (ix2 r c) = Ideal.exp (l (ix2 r c) - rmax l (ix2 r c)) := by
  pointwise [wts]

theorem wsum_at (l : FVec Ideal S1024x128 .f32) (r : Fin 1024) (c : Fin 1) :
    wsum l (ix2 r c) = ∑ k : Fin 128, wts l (ix2 r k) := by
  pointwise [wsum]

theorem firstMax_at (l : FVec Ideal S1024x128 .f32) (r : Fin 1024) (c : Fin 1) :
    firstMax l (ix2 r c)
    = Finset.univ.fold IntOp.minsi 2147483647#32 fun k : Fin 128 => if l (ix2 r k) = rmax l (ix2 r k) then BitVec.ofNat 32 k.val else 128#32 := by
  pointwise [firstMax]

theorem logits_at (x : FVec Ideal S1024x256 .bf16) (e : FVec Ideal S3328x256 .bf16) (r : Fin 1024) (n : Fin 3328) :
    logits x e (ix2 r n) = ∑ k : Fin 256, (x (ix2 r k) * e (ix2 n k) : EReal) := by
  pointwise [logits]

theorem quantOf_at (q : IVec S1024x1 32) (l : FVec Ideal S1024x128 .f32) (e : FVec Ideal S3328x256 .bf16) (r : Fin 1024) (d : Fin 256) :
    quantOf q l e (ix2 r d) = Ideal.div (∑ n : Fin 3328, (laid (F := Ideal) q (wts l) (ix2 r n) * e (ix2 n d) : EReal)) (wsum l (ix2 r 0)) := by
  pointwise [quantOf]
  rfl

end Cert.KernelIdeal.Val

end
-- ==== Proof.Ref.Index.lean ====
/- The reference's stages, entry by entry. -/
module

public import proofs.«01_k».proof.Proof.Ref.Stages
public import Idealize.ShloMosaic.Lib.Pointwise
public import Idealize.ShloMosaic.Lib.StableHlo.Predicate

@[expose] public section

set_option maxRecDepth 16384

noncomputable section

namespace Cert.ReferenceIdeal.Ref

open Cert.ReferenceIdeal Cert.ReferenceIdeal.Gen Idealize.ShloMosaic Idealize.ShloMosaic.Pointwise

theorem ends_at : ∀ i : Fin 26, ends (ix1 i) = BitVec.ofNat 32 (128 * (i.val + 1)) := by
  decide +kernel

theorem allStarts_at : ∀ i : Fin 26, allStarts (F := Ideal) (ix1 i) = BitVec.ofNat 32 (128 * i.val) := by
  decide +kernel

/-- A number of a sub-codebook is not negative. -/
theorem small_at : ∀ p : Fin 26, Scalar.select (IntOp.cmpi CmpIPredicate.slt (BitVec.ofNat 32 p.val) 0#32)
    (IntOp.addi (BitVec.ofNat 32 p.val) 26#32) (BitVec.ofNat 32 p.val) = BitVec.ofNat 32 p.val := by
  decide +kernel

theorem toInt_at : ∀ p : Fin 26, min (BitVec.ofNat 32 p.val).toInt.toNat (26 - 1) = p.val := by
  decide +kernel

theorem starts_at (Q : IVec S8192 32) (r : Fin 8192) (p : ℕ) (hp : p < 26) (hq : Q (ix1 r) = BitVec.ofNat 32 p) :
    starts (F := Ideal) Q (ix1 r) = BitVec.ofNat 32 (128 * p) := by
  have h := StableHlo.Predicate.gather_take gather_S26_S8192x1_S8192_n_0_n_n_0_1_1 rfl rfl rfl rfl (allStarts (F := Ideal))
    (broadcastInDim S8192x1 ![0] bcast_S8192_S8192x1_0
      (select (cmpi .slt Q (broadcastInDim S8192 ![] bcast_S_S8192 (constantI S_ 32 0#32)))
        (addi Q (broadcastInDim S8192 ![] bcast_S_S8192 (constantI S_ 32 26#32))) Q)) r (by omega)
  have e : (broadcastInDim S8192x1 ![0] bcast_S8192_S8192x1_0
      (select (cmpi .slt Q (broadcastInDim S8192 ![] bcast_S_S8192 (constantI S_ 32 0#32)))
        (addi Q (broadcastInDim S8192 ![] bcast_S_S8192 (constantI S_ 32 26#32))) Q)) (ix2 r 0) = BitVec.ofNat 32 p := by
    pointwise
    rw [hq]
    exact small_at ⟨p, hp⟩
  have e1 : (StableHlo.Predicate.ixP r : S8192x1.Idx) = ix2 r 0 := by
    funext a
    match a with
    | ⟨0, _⟩ => rfl
    | ⟨1, _⟩ => rfl
  have e2 : (Shape.Idx.ofFin r : S8192.Idx) = ix1 r := by
    funext a
    match a with
    | ⟨0, _⟩ => rfl
  rw [e2] at h
  rw [← e1] at e
  unfold starts
  rw [h, ← allStarts_at ⟨p, hp⟩]
  refine congrArg (allStarts (F := Ideal)) ?_
  funext a
  match a with
  | ⟨0, _⟩ =>
    refine Fin.ext (Eq.trans ?_ (toInt_at ⟨p, hp⟩))
    show min (BitVec.toInt _).toNat _ = min (BitVec.toInt _).toNat _
    rw [e]

/-- Numbers below 2³¹ as words. -/
theorem sle_at (a b : ℕ) (ha : a < 2 ^ 31) (hb : b < 2 ^ 31) : (BitVec.ofNat 32 a).sle (BitVec.ofNat 32 b) = decide (a ≤ b) := by
  have h : ∀ c : ℕ, c < 2 ^ 31 → (BitVec.ofNat 32 c).toInt = c := fun c hc => by
    rw [BitVec.toInt_eq_toNat_of_lt]
    · simp only [BitVec.toNat_ofNat]; norm_cast; omega
    · simp only [BitVec.toNat_ofNat]; omega
  rw [BitVec.sle_eq_decide, h a ha, h b hb]
  simp

theorem slt_at (a b : ℕ) (ha : a < 2 ^ 31) (hb : b < 2 ^ 31) : (BitVec.ofNat 32 a).slt (BitVec.ofNat 32 b) = decide (a < b) := by
  have h : ∀ c : ℕ, c < 2 ^ 31 → (BitVec.ofNat 32 c).toInt = c := fun c hc => by
    rw [BitVec.toInt_eq_toNat_of_lt]
    · simp only [BitVec.toNat_ofNat]; norm_cast; omega
    · simp only [BitVec.toNat_ofNat]; omega
  rw [BitVec.slt_eq_decide, h a ha, h b hb]
  simp

theorem eq_at (a b : ℕ) (ha : a < 2 ^ 31) (hb : b < 2 ^ 31) :
    IntOp.cmpi CmpIPredicate.eq (BitVec.ofNat 32 a) (BitVec.ofNat 32 b) = if a = b then 1#1 else 0#1 := by
  by_cases e : a = b
  · subst e; simp [IntOp.cmpi]
  · have h' : ¬BitVec.ofNat 32 a = BitVec.ofNat 32 b := fun h => e (by
      have := congrArg BitVec.toNat h
      simp only [BitVec.toNat_ofNat] at this
      omega)
    simp [IntOp.cmpi, beq_eq_false_iff_ne.mpr h', e]

theorem inside_at (s : IVec S8192 32) (r : Fin 8192) (n : Fin 3328) (p : ℕ) (hp : p < 26) (hs : s (ix1 r) = BitVec.ofNat 32 (128 * p)) :
    inside s (ix2 r n) = if n.val / 128 = p then 1#1 else 0#1 := by
  pointwise [inside, cols]
  rw [hs]
  have e : IntOp.addi (BitVec.ofNat 32 (128 * p)) 128#32 = BitVec.ofNat 32 (128 * p + 128) := by
    simp [IntOp.addi, BitVec.ofNat_add]
  rw [e]
  have h1 := sle_at (128 * p) n.val (by omega) (by omega)
  have h2 := slt_at n.val (128 * p + 128) (by omega) (by omega)
  simp only [IntOp.cmpi, IntOp.andi, h1, h2]
  by_cases h : n.val / 128 = p
  · have a1 : 128 * p ≤ n.val := by omega
    have a2 : n.val < 128 * p + 128 := by omega
    simp [h, a1, a2]
  · by_cases a1 : 128 * p ≤ n.val
    · have a2 : ¬n.val < 128 * p + 128 := by omega
      simp [h, a1, a2]
    · simp [h, a1]

theorem div_one (a : EReal) : Ideal.div a 1 = a := by
  have h := Ideal.div_coe (y := 1) one_ne_zero a
  simpa using h

theorem products_at (x : FVec Ideal S8192x256 .f32) (E : FVec Ideal S3328x256 .f32) (r : Fin 8192) (n : Fin 3328) :
    products x E (ix2 r n) = ∑ k : Fin 256, (x (ix2 r k) * E (ix2 n k) : EReal) := by
  pointwise [products]
  exact div_one _

/-- A choice by a decided bit. -/
theorem select_bit {α : Type} (p : Prop) [Decidable p] (a b : α) : Scalar.select (if p then 1#1 else 0#1) a b = if p then a else b := by
  by_cases h : p <;> simp [h, Scalar.select]

theorem minus_inf : Ideal.ofBits FTy.f32 4286578688#32 = ⊥ := by simp [Ideal.ofBits, Ideal.ieee]

theorem masked_at (x : FVec Ideal S8192x256 .f32) (Q : IVec S8192 32) (E : FVec Ideal S3328x256 .f32) (r : Fin 8192) (n : Fin 3328)
    (p : ℕ) (hp : p < 26) (hq : Q (ix1 r) = BitVec.ofNat 32 p) :
    masked x Q E (ix2 r n) = if n.val / 128 = p then ∑ k : Fin 256, (x (ix2 r k) * E (ix2 n k) : EReal) else ⊥ := by
  pointwise [masked]
  rw [inside_at _ r n p hp (starts_at Q r p hp hq), products_at, select_bit, ← minus_inf]
  rfl

/-- A maximum over the columns of a matrix. -/
theorem reduce_max {a b : ℕ} {u : Shape} (h : (⟨2, ![a, b]⟩ : Shape).ReducesTo [1] ⟨1, ![a]⟩) (hu : 0 < u.numel)
    (v : FVec Ideal ⟨2, ![a, b]⟩ .f32) (c : FVec Ideal u .f32) (j : (⟨1, ![a]⟩ : Shape).Idx) :
    Host.reduce FloatOps.maximumf v c h hu j = Finset.univ.fold max (c (Shape.Idx.first hu)) fun k : Fin b => v (ix2 (j 0) k) := by
  simp only [pointwise]

theorem maxima_of (R : FVec Ideal S8192 .f32) (r : Fin 8192) (n : Fin 3328) :
    broadcastInDim S8192x3328 ![0, 1] bcast_S8192x1_S8192x3328_0_1 (broadcastInDim S8192x1 ![0] bcast_S8192_S8192x1_0
      (maximumf (broadcastInDim S8192 ![] bcast_S_S8192 (constant S_ .f32 0xFF800000#32)) R)) (ix2 r n) = R (ix1 r) := by
  pointwise
  rw [minus_inf]
  exact max_eq_right bot_le

theorem maxima_at (l : FVec Ideal S8192x3328 .f32) (r : Fin 8192) (n : Fin 3328) :
    maxima l (ix2 r n) = Finset.univ.fold max ⊥ fun k : Fin 3328 => l (ix2 r k) := by
  unfold maxima
  rw [maxima_of, reduce_max, ← minus_inf]
  rfl

theorem soft_at (l : FVec Ideal S8192x3328 .f32) (r : Fin 8192) (n : Fin 3328) :
    soft l (ix2 r n) = Ideal.div (Ideal.exp (l (ix2 r n) - maxima l (ix2 r n)))
      (∑ k : Fin 3328, Ideal.exp (l (ix2 r k) - maxima l (ix2 r k))) := by
  pointwise [soft, expos]

theorem quantRef_at (x : FVec Ideal S8192x256 .f32) (Q : IVec S8192 32) (E : FVec Ideal S3328x256 .f32) (r : Fin 8192) (d : Fin 256) :
    quantRef x Q E (ix2 r d) = ∑ n : Fin 3328, (soft (F := Ideal) (masked x Q E) (ix2 r n) * E (ix2 n d) : EReal) := by
  pointwise [quantRef]

theorem unit_at (E : FVec Ideal S3328x256 .f32) (n : Fin 3328) (k : Fin 256) :
    unit E (ix2 n k) = Ideal.div (E (ix2 n k)) (Ideal.sqrt (∑ d : Fin 256, (E (ix2 n d) * E (ix2 n d) : EReal))) := by
  pointwise [unit]

/-- Adding up bits counts them. -/
theorem fold_count {ι : Type} (s : Finset ι) (P : ι → Prop) [DecidablePred P] :
    s.fold IntOp.addi 0#32 (fun i => if P i then 1#32 else 0#32) = BitVec.ofNat 32 (s.filter P).card := by
  classical
  induction s using Finset.induction_on with
  | empty => simp
  | insert a s ha ih =>
    rw [Finset.fold_insert ha, ih, Finset.filter_insert]
    by_cases h : P a
    · rw [if_pos h, if_pos h, Finset.card_insert_of_notMem (by simp [ha])]
      simp [IntOp.addi, BitVec.ofNat_add, BitVec.add_comm]
    · rw [if_neg h, if_neg h]
      simp [IntOp.addi]

theorem count_below (a : ℕ) (ha : a < 26) : (Finset.univ.filter fun i : Fin 26 => i.val + 1 ≤ a).card = a := by
  have h : ∀ a : Fin 26, (Finset.univ.filter fun i : Fin 26 => i.val + 1 ≤ a.val).card = a.val := by decide +kernel
  exact h ⟨a, ha⟩

theorem labels_at (n : Fin 3328) : labels (ix1 n) = BitVec.ofNat 32 (n.val / 128) := by
  pointwise [labels]
  have e : (fun x : Fin 26 => BitVec.setWidth 32 (IntOp.cmpi CmpIPredicate.sle (ends (ix1 x)) (BitVec.ofNat 32 n.val)))
      = fun x => if x.val + 1 ≤ n.val / 128 then 1#32 else 0#32 := by
    funext x
    have h := sle_at (128 * (x.val + 1)) n.val (by omega) (by omega)
    rw [ends_at]
    simp only [IntOp.cmpi, h]
    by_cases h' : x.val + 1 ≤ n.val / 128
    · have a1 : 128 * (x.val + 1) ≤ n.val := by omega
      simp [h', a1]
    · have a1 : ¬128 * (x.val + 1) ≤ n.val := by omega
      simp [h', a1]
  rw [e, fold_count, count_below _ (by omega)]

theorem same_at (n k : Fin 3328) : same (ix2 n k) = if k.val / 128 = n.val / 128 then 1#1 else 0#1 := by
  pointwise [same]
  rw [labels_at, labels_at, eq_at _ _ (by omega) (by omega)]

theorem eye_at (n k : Fin 3328) : eye (ix2 n k) = if k = n then 1#1 else 0#1 := by
  pointwise [eye]
  have e : IntOp.addi (BitVec.ofNat 32 n.val) 0#32 = BitVec.ofNat 32 n.val := by simp [IntOp.addi]
  rw [e, eq_at _ _ (by omega) (by omega)]
  have h : n.val = k.val ↔ k = n := by rw [Fin.ext_iff]; exact eq_comm
  simp only [h]

/-- The temperature. -/
theorem temp_at : Ideal.ofBits FTy.f32 1032805417#32 = ((9395241 / 134217728 : ℝ) : EReal) := by
  simp [Ideal.ofBits, Ideal.ieee, -EReal.coe_mul]
  norm_num

theorem simExp_at (U : FVec Ideal S3328x256 .f32) (n k : Fin 3328) :
    simExp U (ix2 n k) = Ideal.exp ((if k = n then ⊥ else ∑ d : Fin 256, (U (ix2 n d) * U (ix2 k d) : EReal)) * ((134217728 / 9395241 : ℝ) : EReal)) := by
  pointwise [simExp]
  rw [eye_at, select_bit, temp_at, Ideal.div_coe (by norm_num)]
  have h : (1 / (9395241 / 134217728) : ℝ) = 134217728 / 9395241 := by norm_num
  rw [h, ← minus_inf]
  rfl

theorem meanLog_at (p : FVec Ideal S3328x3328 .f32) (j) :
    meanLog p j = -Ideal.div (∑ n : Fin 3328, Ideal.log (Ideal.div
      (∑ k : Fin 3328, (p (ix2 n k) * (if k.val / 128 = n.val / 128 then 1 else 0) : EReal)) (∑ k : Fin 3328, p (ix2 n k))))
      (Ideal.ofBits FTy.f32 0x45500000#32) := by
  pointwise [meanLog, rowSum]
  simp only [same_at]
  have e : ∀ P : Prop, [Decidable P] → (FloatOps.uitofp FTy.f32 (if P then 1#1 else 0#1) : Ideal .f32) = ((if P then 1 else 0 : EReal)) := by
    intro P _
    by_cases h : P
    · rw [if_pos h, if_pos h]; show (((1#1 : BitVec 1).toNat : ℝ) : EReal) = 1; simp
    · rw [if_neg h, if_neg h]; show (((0#1 : BitVec 1).toNat : ℝ) : EReal) = 0; simp
  simp only [e, Finset.sum_const, Finset.card_univ, Fintype.card_fin, one_smul]

end Cert.ReferenceIdeal.Ref

end
-- ==== Proof.Math.Row.lean ====
/- The first and fourth result along one row of real numbers: the kernel's and the reference's are the same real. -/
module

public import proofs.«01_k».proof.Proof.Math.Real
public import proofs.«01_k».proof.Proof.Math.Arg
public import proofs.«01_k».proof.Proof.Val.Index
public import proofs.«01_k».proof.Proof.Ref.Index

@[expose] public section

set_option maxRecDepth 16384

noncomputable section

namespace Cert.Proof.Math

open Idealize.ShloMosaic Idealize.ShloMosaic.Pointwise

/-- The row `n` of the table, among the 128 of type `p`. -/
abbrev at128 (p : ℕ) (hp : p < 26) (c : Fin 128) : Fin 3328 := ⟨128 * p + c.val, by omega⟩

/-- The inner products of one row of the input with the table's rows of its type. -/
def logit (u : Fin 256 → ℝ) (v : Fin 3328 → Fin 256 → ℝ) (p : ℕ) (hp : p < 26) (c : Fin 128) : ℝ :=
  ∑ k, u k * v (at128 p hp c) k

/-- The weight of a row of the table, before the weights are made to sum to one. -/
def wt (l : Fin 128 → ℝ) (m c : Fin 128) : ℝ := Real.exp (l c - l m)

theorem wt_pos (l : Fin 128 → ℝ) (m c : Fin 128) : 0 < wt l m c := Real.exp_pos _

theorem wt_sum_pos (l : Fin 128 → ℝ) (m : Fin 128) : 0 < ∑ c, wt l m c :=
  Finset.sum_pos (fun c _ => wt_pos l m c) ⟨0, Finset.mem_univ _⟩

/-- The weighted mean of the table's rows. -/
def mean (l : Fin 128 → ℝ) (m : Fin 128) (v : Fin 3328 → Fin 256 → ℝ) (p : ℕ) (hp : p < 26) (d : Fin 256) : ℝ :=
  (∑ c, wt l m c * v (at128 p hp c) d) / ∑ c, wt l m c

/-- `m` is the first place at which `l` is largest. -/
structure First (l : Fin 128 → ℝ) (m : Fin 128) : Prop where
  max : ∀ k, l k ≤ l m
  fst : ∀ k, l k = l m → m ≤ k

theorem fold_real (l : Fin 128 → ℝ) (m : Fin 128) (h : First l m) :
    (Finset.univ.fold max ⊥ fun k : Fin 128 => ((l k : ℝ) : EReal)) = ((l m : ℝ) : EReal) :=
  fold_max _ (fun k => ((l k : ℝ) : EReal)) m (Finset.mem_univ _) fun k _ => EReal.coe_le_coe_iff.mpr (h.max k)

theorem exp_sub (a b : ℝ) : Ideal.exp ((a : EReal) - (b : EReal)) = ((Real.exp (a - b) : ℝ) : EReal) := by
  rw [← EReal.coe_sub, Ideal.exp_coe]

section Kernel

open Cert.KernelIdeal Cert.KernelIdeal.Val

variable (q : IVec S1024x1 32) (x : FVec Ideal S1024x256 .bf16) (e : FVec Ideal S3328x256 .bf16) (r : Fin 1024)
  (u : Fin 256 → ℝ) (v : Fin 3328 → Fin 256 → ℝ) (p : ℕ) (hp : p < 26) (hq : q (ix2 r 0) = BitVec.ofNat 32 p)
  (hx : ∀ k, x (ix2 r k) = ((u k : ℝ) : EReal)) (he : ∀ n k, e (ix2 n k) = ((v n k : ℝ) : EReal))
  (m : Fin 128) (hm : First (logit u v p hp) m)

include hq hx he in
theorem lsel_real (c : Fin 128) : lsel (F := Ideal) q (logits x e) (ix2 r c) = ((logit u v p hp c : ℝ) : EReal) := by
  rw [lsel_at q _ r c p hp hq, logits_at, logit, ← coe_dot]
  exact Finset.sum_congr rfl fun k _ => by rw [hx, he]

include hq hx he hm in
theorem rmax_real (c : Fin 128) : rmax (F := Ideal) (lsel q (logits x e)) (ix2 r c) = ((logit u v p hp m : ℝ) : EReal) := by
  rw [rmax_at, ← fold_real _ m hm]
  refine congrArg (Finset.fold max ⊥ · Finset.univ) (funext fun k => lsel_real q x e r u v p hp hq hx he k)

include hq hx he hm in
theorem wts_real (c : Fin 128) : wts (F := Ideal) (lsel q (logits x e)) (ix2 r c) = ((wt (logit u v p hp) m c : ℝ) : EReal) := by
  rw [wts_at, rmax_real q x e r u v p hp hq hx he m hm, lsel_real q x e r u v p hp hq hx he, exp_sub]
  rfl

include hq hx he hm in
theorem quantBlk_real (d : Fin 256) : quantBlk (F := Ideal) q x e (ix2 r d) = ((mean (logit u v p hp) m v p hp d : ℝ) : EReal) := by
  unfold quantBlk
  rw [quantOf_at, wsum_at]
  have h1 : ∀ n : Fin 3328, (laid (F := Ideal) q (wts (lsel q (logits x e))) (ix2 r n) * e (ix2 n d) : EReal)
      = if n.val / 128 = p then ((wt (logit u v p hp) m ⟨n.val % 128, by omega⟩ * v n d : ℝ) : EReal) else 0 := by
    intro n
    rw [laid_at q _ r n p hp hq, he]
    by_cases h : n.val / 128 = p
    · rw [if_pos h, if_pos h, wts_real q x e r u v p hp hq hx he m hm, EReal.coe_mul]
    · rw [if_neg h, if_neg h]
      have h0 : (FloatOps.ofBits (F := Ideal) .bf16 0x0000#16 : EReal) = 0 := by simp [FloatOps.ofBits, Ideal.ofBits, Ideal.ieee]
      rw [h0, zero_mul]
  rw [Finset.sum_congr rfl fun n _ => h1 n, sum_group 26 rfl _ p hp,
    Finset.sum_congr rfl fun c _ => wts_real q x e r u v p hp hq hx he m hm c, coe_sum, coe_sum, coe_quot _ _ (wt_sum_pos _ m).ne']
  refine congrArg (fun t : ℝ => (t : EReal)) (congrArg (· / ∑ c, wt (logit u v p hp) m c) (Finset.sum_congr rfl fun c _ => ?_))
  have hc : (⟨(128 * p + c.val) % 128, by omega⟩ : Fin 128) = c := Fin.ext (by show (128 * p + c.val) % 128 = c.val; omega)
  show wt (logit u v p hp) m ⟨(128 * p + c.val) % 128, _⟩ * _ = _
  rw [hc]

include hq hx he hm in
theorem indexBlk_real : indexBlk (F := Ideal) q x e (ix2 r 0) = BitVec.ofNat 32 (128 * p + m.val) := by
  have h1 : indexBlk (F := Ideal) q x e (ix2 r 0) = IntOp.addi (IntOp.muli (q (ix2 r 0)) 128#32) (firstMax (lsel q (logits x e)) (ix2 r 0)) := by
    pointwise [indexBlk, indexOf]
  rw [h1, hq, firstMax_at, fold_first _ m]
  · simp only [IntOp.addi, IntOp.muli]
    rw [← BitVec.ofNat_mul, ← BitVec.ofNat_add, Nat.mul_comm p 128]
  · rw [lsel_real q x e r u v p hp hq hx he, rmax_real q x e r u v p hp hq hx he m hm]
  · intro k hk
    rw [lsel_real q x e r u v p hp hq hx he, rmax_real q x e r u v p hp hq hx he m hm] at hk
    exact hm.fst k (EReal.coe_eq_coe_iff.mp hk)

end Kernel

section Reference

open Cert.ReferenceIdeal Cert.ReferenceIdeal.Ref

variable (x : FVec Ideal S8192x256 .f32) (Q : IVec S8192 32) (E : FVec Ideal S3328x256 .f32) (r : Fin 8192)
  (u : Fin 256 → ℝ) (v : Fin 3328 → Fin 256 → ℝ) (p : ℕ) (hp : p < 26) (hq : Q (ix1 r) = BitVec.ofNat 32 p)
  (hx : ∀ k, x (ix2 r k) = ((u k : ℝ) : EReal)) (he : ∀ n k, E (ix2 n k) = ((v n k : ℝ) : EReal))
  (m : Fin 128) (hm : First (logit u v p hp) m)

/-- A row of the table of type `p` by its place among its 128. -/
theorem at128_mod (n : Fin 3328) (h : n.val / 128 = p) : at128 p hp ⟨n.val % 128, by omega⟩ = n :=
  Fin.ext (by show 128 * p + n.val % 128 = n.val; omega)

theorem at128_div (c : Fin 128) : (at128 p hp c).val / 128 = p := by show (128 * p + c.val) / 128 = p; omega

theorem at128_place (c : Fin 128) (h : (at128 p hp c).val % 128 < 128) : (⟨(at128 p hp c).val % 128, h⟩ : Fin 128) = c :=
  Fin.ext (by show (128 * p + c.val) % 128 = c.val; omega)

include hq hx he in
theorem masked_real (n : Fin 3328) : masked (F := Ideal) x Q E (ix2 r n)
    = if n.val / 128 = p then ((logit u v p hp ⟨n.val % 128, by omega⟩ : ℝ) : EReal) else ⊥ := by
  rw [masked_at x Q E r n p hp hq]
  by_cases h : n.val / 128 = p
  · rw [if_pos h, if_pos h, logit, at128_mod p hp n h, ← coe_dot]
    exact Finset.sum_congr rfl fun k _ => by rw [hx, he]
  · rw [if_neg h, if_neg h]

include hq hx he hm in
theorem maxima_real (n : Fin 3328) : maxima (F := Ideal) (masked x Q E) (ix2 r n) = ((logit u v p hp m : ℝ) : EReal) := by
  have h0 := masked_real x Q E r u v p hp hq hx he (at128 p hp m)
  rw [if_pos (at128_div p hp m), at128_place p hp m] at h0
  rw [maxima_at, ← h0]
  refine fold_max _ (fun k : Fin 3328 => masked x Q E (ix2 r k)) (at128 p hp m) (Finset.mem_univ _) fun k _ => ?_
  show masked x Q E (ix2 r k) ≤ masked x Q E (ix2 r (at128 p hp m))
  rw [h0, masked_real x Q E r u v p hp hq hx he k]
  by_cases h : k.val / 128 = p
  · rw [if_pos h]; exact EReal.coe_le_coe_iff.mpr (hm.max _)
  · rw [if_neg h]; exact bot_le

include hq hx he hm in
theorem exp_real (n : Fin 3328) : Ideal.exp ((masked (F := Ideal) x Q E (ix2 r n) : EReal) - maxima (F := Ideal) (masked x Q E) (ix2 r n))
    = if n.val / 128 = p then ((wt (logit u v p hp) m ⟨n.val % 128, by omega⟩ : ℝ) : EReal) else 0 := by
  rw [maxima_real x Q E r u v p hp hq hx he m hm, masked_real x Q E r u v p hp hq hx he]
  by_cases h : n.val / 128 = p
  · rw [if_pos h, if_pos h, exp_sub]; rfl
  · rw [if_neg h, if_neg h, EReal.bot_sub, Ideal.exp_bot]

include hq hx he hm in
theorem soft_real (n : Fin 3328) : soft (F := Ideal) (masked x Q E) (ix2 r n)
    = if n.val / 128 = p then ((wt (logit u v p hp) m ⟨n.val % 128, by omega⟩ / ∑ c, wt (logit u v p hp) m c : ℝ) : EReal) else 0 := by
  rw [soft_at, Finset.sum_congr rfl fun n _ => exp_real x Q E r u v p hp hq hx he m hm n, sum_group 26 rfl _ p hp,
    exp_real x Q E r u v p hp hq hx he m hm]
  have h1 : ∀ c : Fin 128, (((wt (logit u v p hp) m ⟨(128 * p + c.val) % 128, by omega⟩ : ℝ)) : EReal) = ((wt (logit u v p hp) m c : ℝ) : EReal) := by
    intro c
    exact congrArg (fun t => ((wt (logit u v p hp) m t : ℝ) : EReal)) (at128_place p hp c _)
  rw [Finset.sum_congr rfl fun c _ => h1 c, coe_sum]
  by_cases h : n.val / 128 = p
  · rw [if_pos h, if_pos h, coe_quot _ _ (wt_sum_pos _ m).ne']
  · rw [if_neg h, if_neg h, ← EReal.coe_zero, coe_quot _ _ (wt_sum_pos _ m).ne', zero_div]

include hq hx he hm in
theorem quantRef_real (d : Fin 256) : quantRef (F := Ideal) x Q E (ix2 r d) = ((mean (logit u v p hp) m v p hp d : ℝ) : EReal) := by
  rw [quantRef_at]
  have h1 : ∀ n : Fin 3328, (soft (F := Ideal) (masked x Q E) (ix2 r n) * E (ix2 n d) : EReal)
      = if n.val / 128 = p then ((wt (logit u v p hp) m ⟨n.val % 128, by omega⟩ / (∑ c, wt (logit u v p hp) m c) * v n d : ℝ) : EReal) else 0 := by
    intro n
    rw [soft_real x Q E r u v p hp hq hx he m hm, he]
    by_cases h : n.val / 128 = p
    · rw [if_pos h, if_pos h, EReal.coe_mul]
    · rw [if_neg h, if_neg h, zero_mul]
  rw [Finset.sum_congr rfl fun n _ => h1 n, sum_group 26 rfl _ p hp, coe_sum, mean, Finset.sum_div]
  refine congrArg (fun t : ℝ => (t : EReal)) (Finset.sum_congr rfl fun c _ => ?_)
  have hc := at128_place p hp c (by omega)
  show wt (logit u v p hp) m ⟨(at128 p hp c).val % 128, _⟩ / _ * v (at128 p hp c) d = _
  rw [hc, div_mul_eq_mul_div]

include hq hx he hm in
theorem indexRef_real : indexRef (F := Ideal) x Q E (ix1 r) = BitVec.ofNat 32 (128 * p + m.val) := by
  have hs := wt_sum_pos (logit u v p hp) m
  have hw : ∀ c, wt (logit u v p hp) m c ≤ wt (logit u v p hp) m m := fun c => Real.exp_le_exp.mpr (sub_le_sub_right (hm.max c) _)
  have h0 := soft_real x Q E r u v p hp hq hx he m hm (at128 p hp m)
  rw [if_pos (at128_div p hp m), at128_place p hp m] at h0
  have hpos : 0 < wt (logit u v p hp) m m / ∑ c, wt (logit u v p hp) m c := div_pos (wt_pos _ m m) hs
  unfold indexRef
  refine argRef_at _ r (at128 p hp m) ?_ ?_ ?_
  · rw [h0]; exact EReal.coe_ne_bot _
  · intro k
    rw [h0, soft_real x Q E r u v p hp hq hx he m hm k]
    by_cases h : k.val / 128 = p
    · rw [if_pos h]; exact EReal.coe_le_coe_iff.mpr ((div_le_div_iff_of_pos_right hs).mpr (hw _))
    · rw [if_neg h, ← EReal.coe_zero]; exact EReal.coe_le_coe_iff.mpr hpos.le
  · intro k
    rw [h0, soft_real x Q E r u v p hp hq hx he m hm k]
    by_cases h : k.val / 128 = p
    · rw [if_pos h, EReal.coe_eq_coe_iff, div_left_inj' hs.ne']
      intro hk
      have h3 := hm.fst _ (sub_left_injective (Real.exp_injective hk))
      have h4 : m.val ≤ k.val % 128 := h3
      show 128 * p + m.val ≤ k.val
      omega
    · rw [if_neg h, ← EReal.coe_zero, EReal.coe_eq_coe_iff]
      intro hk
      exact absurd hk hpos.ne

end Reference

end Cert.Proof.Math

end

end
-- ==== Proof.Val.LossIndex.lean ====
/- The kernel's loss, entry by entry. -/
module

public import proofs.«01_k».proof.Proof.Val.Body
public import Idealize.ShloMosaic.Lib.Pointwise
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Pointwise

/-- A number below 256 divided by 128 the way the kernel does it, rounding down. -/
theorem floor128 : ∀ j : Fin 256, Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 128#32 0#32))
            (Scalar.extui (Scalar.cmpi CmpIPredicate.slt 128#32 0#32))))
        (IntOp.cmpi CmpIPredicate.ne (IntOp.remsi ArithUnit.vector (BitVec.ofNat 32 j.val) 128#32) 0#32))
      (IntOp.subi (IntOp.divsi ArithUnit.vector (BitVec.ofNat 32 j.val) 128#32) 1#32)
      (IntOp.divsi ArithUnit.vector (BitVec.ofNat 32 j.val) 128#32) = BitVec.ofNat 32 (j.val / 128) := by
  decide +kernel

theorem pay3_at (i j : Fin 256) : k0_pay3 (ix2 i j) = BitVec.ofNat 32 (j.val / 128) := by
  pointwise [k0_pay3]
  exact floor128 j

theorem pay4_at (i j : Fin 256) : k0_pay4 (ix2 i j) = IntOp.divsi ArithUnit.vector (BitVec.ofNat 32 i.val) 128#32 := by
  pointwise [k0_pay4]

theorem pay5_at (i j : Fin 256) : k0_pay5 (ix2 i j) = BitVec.setWidth 32 (IntOp.cmpi CmpIPredicate.sgt (BitVec.ofNat 32 i.val) 0#32) := by
  pointwise [k0_pay5]

/-- The reciprocal of the temperature. -/
abbrev invT : EReal := ((134217728 / 9395241 : ℝ) : EReal)

theorem named_invT : (Named.named κ "inv_temp" 0x41649249#32 : Ideal .f32) = invT :=
  IdealRules.named_const.ideal_named_scalar _ _ _ _ rfl

theorem pay1_at (E : FVec Ideal S3328x256 .f32) (b : FVec Ideal S256x256 .f32) (i : Fin 256) (z : Fin 1) :
    k0_pay1 (F := Ideal) E b (ix2 i z) = ∑ n : Fin 3328, Ideal.exp ((∑ k : Fin 256, b (ix2 i k) * E (ix2 n k)) * invT) := by
  pointwise [k0_pay1]
  rw [named_invT]

theorem pay2_at (b : FVec Ideal S256x256 .f32) (i j : Fin 256) :
    k0_pay2 b (ix2 i j) = ∑ k : Fin 256, (b (ix2 i k) * b (ix2 j k) : EReal) := by
  pointwise [k0_pay2]

theorem tabBlk_at (E : FVec Ideal S3328x256 .f32) (n : ℕ) (hn : n < 13) (i k : Fin 256) :
    tabBlk (F := Ideal) E n hn (ix2 i k) = E (ix2 ⟨256 * n + i.val, by omega⟩ k) := by
  unfold tabBlk View.ld
  refine congrArg E ?_
  funext a
  match a with
  | ⟨0, _⟩ => exact Fin.ext (Rect.idx_unit_val _ _ _ _ _)
  | ⟨1, _⟩ => exact Fin.ext ((Rect.idx_unit_val _ _ _ _ _).trans (Nat.zero_add _))

/-- Which entries of a block are of one type. -/
theorem same_at (i j : Fin 256) : IntOp.cmpi CmpIPredicate.eq (BitVec.ofNat 32 (j.val / 128)) (BitVec.ofNat 32 (i.val / 128))
    = if j.val / 128 = i.val / 128 then 1#1 else 0#1 := by
  have h : ∀ a b : Fin 2, IntOp.cmpi CmpIPredicate.eq (BitVec.ofNat 32 a.val) (BitVec.ofNat 32 b.val) = if a.val = b.val then 1#1 else 0#1 := by decide
  exact h ⟨j.val / 128, by omega⟩ ⟨i.val / 128, by omega⟩

/-- Which entries of a block are on its diagonal. -/
theorem diag_at (i j : Fin 256) : IntOp.cmpi CmpIPredicate.eq (BitVec.ofNat 32 i.val) (BitVec.ofNat 32 j.val)
    = if j = i then 1#1 else 0#1 := by
  have h : (BitVec.ofNat 32 i.val = BitVec.ofNat 32 j.val) ↔ j = i := by
    constructor
    · intro h
      have := congrArg BitVec.toNat h
      simp only [BitVec.toNat_ofNat] at this
      exact Fin.ext (by omega)
    · rintro rfl; rfl
  by_cases e : j = i
  · subst e; simp [IntOp.cmpi]
  · have h' : ¬BitVec.ofNat 32 i.val = BitVec.ofNat 32 j.val := fun h' => e (h.mp h')
    simp [IntOp.cmpi, beq_eq_false_iff_ne.mpr h', e]

/-- A choice by a decided bit. -/
theorem select_bit {α : Type} (p : Prop) [Decidable p] (a b : α) : Scalar.select (if p then 1#1 else 0#1) a b = if p then a else b := by
  by_cases h : p <;> simp [h, Scalar.select]

/-- One block of the loss. -/
theorem lossStep_at (E : FVec Ideal S3328x256 .f32) (b : FVec Ideal S256x256 .f32) (a : Ideal .f32) :
    lossStep (F := Ideal) E b a = a + ∑ i : Fin 256,
      (Ideal.log ((∑ j : Fin 256, if j.val / 128 = i.val / 128 then Ideal.exp (k0_pay2 (F := Ideal) b (ix2 i j) * invT) else 0)
          - Ideal.exp (k0_pay2 (F := Ideal) b (ix2 i i) * invT))
        - Ideal.log (k0_pay1 (F := Ideal) E b (ix2 i 0) - Ideal.exp (k0_pay2 (F := Ideal) b (ix2 i i) * invT))) := by
  pointwise [lossStep, k0_pay6]
  rw [named_invT]
  simp only [pay3_at, pay4_at, pay5_at, floor128, same_at, diag_at]
  simp only [select_bit, Finset.sum_ite_eq', Finset.mem_univ, if_true, Finset.sum_const, Finset.card_univ, Fintype.card_fin, one_smul]

end Cert.KernelIdeal.Val

end
-- ==== Proof.Math.Loss.lean ====
/- The third result: the kernel's sum, block by block, and the reference's, row by row, have the same terms. -/
module

public import proofs.«01_k».proof.Proof.Math.Real
public import proofs.«01_k».proof.Proof.Val.LossIndex
public import proofs.«01_k».proof.Proof.Ref.Index

@[expose] public section

set_option maxRecDepth 16384

noncomputable section

namespace Cert.Proof.Math

open Idealize.ShloMosaic Idealize.ShloMosaic.Pointwise

section Term

variable (v : Fin 3328 → Fin 256 → ℝ)

/-- The exponential of the scaled inner product of two rows. -/
def sim (n k : Fin 3328) : ℝ := Real.exp ((∑ d, v n d * v k d) * (134217728 / 9395241))

/-- The sum over the other rows of the same type. -/
def same (n : Fin 3328) : ℝ := (∑ k, if k.val / 128 = n.val / 128 then sim v n k else 0) - sim v n n

/-- The sum over all other rows. -/
def every (n : Fin 3328) : ℝ := (∑ k, sim v n k) - sim v n n

theorem sim_pos (n k : Fin 3328) : 0 < sim v n k := Real.exp_pos _

/-- Each type has at least two rows. -/
theorem exists_other (n : Fin 3328) : ∃ k : Fin 3328, k ≠ n ∧ k.val / 128 = n.val / 128 := by
  by_cases h : n.val % 128 = 0
  · exact ⟨⟨n.val + 1, by omega⟩, fun e => by have := congrArg Fin.val e; simp at this, by show (n.val + 1) / 128 = _; omega⟩
  · exact ⟨⟨n.val - 1, by omega⟩, fun e => by have := congrArg Fin.val e; simp at this; omega, by show (n.val - 1) / 128 = _; omega⟩

/-- Without the diagonal. -/
theorem sum_off (n : Fin 3328) (f : Fin 3328 → ℝ) : (∑ k, f k) - f n = ∑ k, if k = n then 0 else f k := by
  rw [← Finset.add_sum_erase Finset.univ f (Finset.mem_univ n), add_sub_cancel_left,
    ← Finset.add_sum_erase Finset.univ (fun k => if k = n then 0 else f k) (Finset.mem_univ n), if_pos rfl, zero_add]
  exact Finset.sum_congr rfl fun k hk => (if_neg (Finset.ne_of_mem_erase hk)).symm

theorem same_pos (n : Fin 3328) : 0 < same v n := by
  have h0 := sum_off n fun k => if k.val / 128 = n.val / 128 then sim v n k else 0
  simp only [if_true] at h0
  rw [same, h0]
  obtain ⟨k, hk, hg⟩ := exists_other n
  refine Finset.sum_pos' (fun i _ => ?_) ⟨k, Finset.mem_univ _, ?_⟩
  · split
    · exact le_refl _
    · split
      · exact (sim_pos v n i).le
      · exact le_refl _
  · rw [if_neg hk, if_pos hg]; exact sim_pos v n k

theorem every_pos (n : Fin 3328) : 0 < every v n := by
  rw [every, sum_off n (sim v n)]
  obtain ⟨k, hk, hg⟩ := exists_other n
  refine Finset.sum_pos' (fun i _ => ?_) ⟨k, Finset.mem_univ _, ?_⟩
  · split
    · exact le_refl _
    · exact (sim_pos v n i).le
  · rw [if_neg hk]; exact sim_pos v n k

/-- A row's share of the loss. -/
def term (n : Fin 3328) : ℝ := Real.log (same v n) - Real.log (every v n)

theorem log_pos (a : ℝ) (h : 0 < a) : Ideal.log (a : EReal) = ((Real.log a : ℝ) : EReal) := by
  rw [Ideal.log_coe, if_neg (not_le_of_gt h)]

end Term

section Kernel

open Cert.KernelIdeal Cert.KernelIdeal.Gen Cert.KernelIdeal.Val

variable (E : FVec Ideal S3328x256 .f32) (v : Fin 3328 → Fin 256 → ℝ) (he : ∀ n k, E (ix2 n k) = ((v n k : ℝ) : EReal))

/-- A row of a block, as a row of the table. -/
abbrev rowOf (n : ℕ) (hn : n < 13) (i : Fin 256) : Fin 3328 := ⟨256 * n + i.val, by omega⟩

theorem exp_scaled (a : ℝ) : Ideal.exp (((a : ℝ) : EReal) * invT) = ((Real.exp (a * (134217728 / 9395241)) : ℝ) : EReal) := by
  rw [← EReal.coe_mul, Ideal.exp_coe]

include he in
theorem pay2_real (n : ℕ) (hn : n < 13) (i j : Fin 256) :
    Ideal.exp ((k0_pay2 (F := Ideal) (tabBlk E n hn) (ix2 i j) : EReal) * invT) = ((sim v (rowOf n hn i) (rowOf n hn j) : ℝ) : EReal) := by
  rw [pay2_at, sim, ← exp_scaled, ← coe_dot]
  refine congrArg (fun t => Ideal.exp (t * invT)) (Finset.sum_congr rfl fun d _ => ?_)
  rw [tabBlk_at, tabBlk_at, he, he]

include he in
theorem pay1_real (n : ℕ) (hn : n < 13) (i : Fin 256) (z : Fin 1) :
    (k0_pay1 (F := Ideal) E (tabBlk E n hn) (ix2 i z) : EReal) = ((∑ k, sim v (rowOf n hn i) k : ℝ) : EReal) := by
  rw [pay1_at, ← coe_sum]
  refine Finset.sum_congr rfl fun k _ => ?_
  rw [sim, ← exp_scaled, ← coe_dot]
  refine congrArg (fun t => Ideal.exp (t * invT)) (Finset.sum_congr rfl fun d _ => ?_)
  rw [tabBlk_at, he, he]

/-- The rows of one type lie in one block: a sum over them may be taken in the block. -/
theorem sum_block (n : ℕ) (hn : n < 13) (i : Fin 256) (f : Fin 3328 → ℝ) :
    (∑ j : Fin 256, if j.val / 128 = i.val / 128 then f (rowOf n hn j) else 0)
      = ∑ k : Fin 3328, if k.val / 128 = (rowOf n hn i).val / 128 then f k else 0 := by
  have hi := i.isLt
  have hd : (rowOf n hn i).val / 128 = 2 * n + i.val / 128 := by show (256 * n + i.val) / 128 = _; omega
  rw [hd, sum_group 2 rfl (fun j : Fin 256 => f (rowOf n hn j)) (i.val / 128) (by omega), sum_group 26 rfl f _ (by omega)]
  refine Finset.sum_congr rfl fun c _ => congrArg f (Fin.ext ?_)
  show 256 * n + (128 * (i.val / 128) + c.val) = 128 * (2 * n + i.val / 128) + c.val
  omega

include he in
theorem lossStep_real (n : ℕ) (hn : n < 13) (a : EReal) :
    lossStep (F := Ideal) E (tabBlk E n hn) a = a + ((∑ i : Fin 256, term v (rowOf n hn i) : ℝ) : EReal) := by
  rw [lossStep_at, ← coe_sum]
  refine congrArg (a + ·) (Finset.sum_congr rfl fun i _ => ?_)
  have h1 : (∑ j : Fin 256, (if j.val / 128 = i.val / 128 then Ideal.exp ((k0_pay2 (F := Ideal) (tabBlk E n hn) (ix2 i j) : EReal) * invT) else 0 : EReal))
      = ((∑ k : Fin 3328, if k.val / 128 = (rowOf n hn i).val / 128 then sim v (rowOf n hn i) k else 0 : ℝ) : EReal) := by
    rw [← sum_block n hn i, ← coe_sum]
    refine Finset.sum_congr rfl fun j _ => ?_
    rw [pay2_real E v he, coe_ite]
  rw [h1, pay1_real E v he, pay2_real E v he, ← EReal.coe_sub, ← EReal.coe_sub]
  show Ideal.log ((same v (rowOf n hn i) : ℝ) : EReal) - Ideal.log ((every v (rowOf n hn i) : ℝ) : EReal) = _
  rw [log_pos _ (same_pos v _), log_pos _ (every_pos v _), ← EReal.coe_sub]
  rfl

/-- A row's share, by the row's number. -/
def termAt (a : ℕ) : ℝ := if h : a < 3328 then term v ⟨a, h⟩ else 0

theorem termAt_row (n : ℕ) (hn : n < 13) (i : Fin 256) : termAt v (256 * n + i.val) = term v (rowOf n hn i) := by
  unfold termAt
  exact dif_pos (show 256 * n + i.val < 3328 by omega)

include he in
theorem lossSum_real (n : ℕ) (hn : n ≤ 13) : lossSum (F := Ideal) E n hn = ((∑ a ∈ Finset.range (256 * n), termAt v a : ℝ) : EReal) := by
  induction n with
  | zero => simp [lossSum, FloatOps.ofBits, Ideal.ofBits, Ideal.ieee]
  | succ n ih =>
    rw [lossSum, ih (by omega), lossStep_real E v he, ← EReal.coe_add, Nat.mul_succ, Finset.sum_range_add]
    refine congrArg (fun t : ℝ => (t : EReal)) (congrArg (_ + ·) ?_)
    rw [Finset.sum_range]
    exact Finset.sum_congr rfl fun i _ => (termAt_row v n hn i).symm

include he in
theorem lossSum_all : lossSum (F := Ideal) E 13 (Nat.le_refl 13) = ((∑ n : Fin 3328, term v n : ℝ) : EReal) := by
  rw [lossSum_real E v he, Finset.sum_range]
  exact congrArg (fun t : ℝ => (t : EReal)) (Finset.sum_congr rfl fun i _ => by unfold termAt; exact dif_pos i.isLt)

end Kernel

section Reference

open Cert.ReferenceIdeal Cert.ReferenceIdeal.Ref

variable (E : FVec Ideal S3328x256 .f32) (v : Fin 3328 → Fin 256 → ℝ) (he : ∀ n k, E (ix2 n k) = ((v n k : ℝ) : EReal))
  (hn : ∀ n : Fin 3328, ∑ d : Fin 256, (E (ix2 n d) * E (ix2 n d) : EReal) = 1)

include he hn in
theorem unit_real (n : Fin 3328) (k : Fin 256) : unit (F := Ideal) E (ix2 n k) = ((v n k : ℝ) : EReal) := by
  rw [unit_at, hn, he]
  have h1 : Ideal.sqrt (1 : EReal) = ((1 : ℝ) : EReal) := by
    rw [← EReal.coe_one, Ideal.sqrt_coe]; simp
  rw [h1, coe_quot _ _ one_ne_zero, _root_.div_one]

include he hn in
theorem simExp_real (n k : Fin 3328) : simExp (F := Ideal) (unit E) (ix2 n k) = if k = n then 0 else ((sim v n k : ℝ) : EReal) := by
  rw [simExp_at]
  by_cases h : k = n
  · rw [if_pos h, if_pos h, EReal.bot_mul_coe_of_pos (by norm_num), Ideal.exp_bot]
  · rw [if_neg h, if_neg h, sim, ← Ideal.exp_coe, EReal.coe_mul, ← coe_dot]
    refine congrArg (fun t : EReal => Ideal.exp (t * ((134217728 / 9395241 : ℝ) : EReal))) (Finset.sum_congr rfl fun d _ => ?_)
    rw [unit_real E v he hn, unit_real E v he hn]

include he hn in
theorem row_real (n : Fin 3328) :
    Ideal.log (Ideal.div (∑ k : Fin 3328, (simExp (F := Ideal) (unit E) (ix2 n k) * (if k.val / 128 = n.val / 128 then 1 else 0) : EReal))
      (∑ k : Fin 3328, (simExp (F := Ideal) (unit E) (ix2 n k) : EReal))) = ((term v n : ℝ) : EReal) := by
  have h1 : (∑ k : Fin 3328, (simExp (F := Ideal) (unit E) (ix2 n k) : EReal)) = ((every v n : ℝ) : EReal) := by
    rw [every, sum_off n (sim v n), ← coe_sum]
    refine Finset.sum_congr rfl fun k _ => ?_
    rw [simExp_real E v he hn]
    by_cases h : k = n <;> simp [h]
  have h2 : (∑ k : Fin 3328, (simExp (F := Ideal) (unit E) (ix2 n k) * (if k.val / 128 = n.val / 128 then 1 else 0) : EReal)) = ((same v n : ℝ) : EReal) := by
    have h0 := sum_off n fun k => if k.val / 128 = n.val / 128 then sim v n k else 0
    simp only [if_true] at h0
    rw [same, h0, ← coe_sum]
    refine Finset.sum_congr rfl fun k _ => ?_
    rw [simExp_real E v he hn]
    by_cases h : k = n
    · simp [h]
    · by_cases g : k.val / 128 = n.val / 128 <;> simp [h, g]
  rw [h1, h2, coe_quot _ _ (every_pos v n).ne', log_pos _ (div_pos (same_pos v n) (every_pos v n)),
    Real.log_div (same_pos v n).ne' (every_pos v n).ne']
  rfl

end Reference

/-- The third result is the same in both. -/
theorem loss_eq (E : FVec Ideal Cert.KernelIdeal.S3328x256 .f32) (v : Fin 3328 → Fin 256 → ℝ) (he : ∀ n k, E (ix2 n k) = ((v n k : ℝ) : EReal))
    (hn : ∀ n : Fin 3328, ∑ d : Fin 256, (E (ix2 n d) * E (ix2 n d) : EReal) = 1) (j : Cert.ReferenceIdeal.S_.Idx) :
    Cert.ReferenceIdeal.Ref.lossRef (F := Ideal) E j
      = -Ideal.div (Cert.KernelIdeal.Val.lossSum (F := Ideal) E 13 (Nat.le_refl 13)) (Ideal.ofBits FTy.f32 0x45500000#32) := by
  unfold Cert.ReferenceIdeal.Ref.lossRef
  rw [Cert.ReferenceIdeal.Ref.meanLog_at, lossSum_all E v he, Finset.sum_congr rfl fun n _ => row_real E v he hn n, coe_sum]

end Cert.Proof.Math

end

end
-- ==== Proof.Run.Results.lean ====
/- What the results hold once the program has run. -/
module

public import proofs.«01_k».proof.Proof.Run.Frame
public import Idealize.ShloMosaic.Lib.Pointwise

@[expose] public section

set_option maxRecDepth 16384

noncomputable section

namespace Cert.KernelIdeal.Run

open Cert.KernelIdeal Cert.KernelIdeal.Gen Cert.KernelIdeal.Val
open Idealize.ShloMosaic Idealize.ShloMosaic.TcCoe Idealize.ShloMosaic.Tactic Idealize.ShloMosaic.Pointwise
open Idealize.SL.Sem

variable {F : FTy → Type} [FloatOps F] [Named F]

variable (m : (ℓ : Loc nD τ sig) → Buf (Elt F) ℓ) (ρ : Dev nD → PrngReg)

/-- Block `t` of the types. -/
def qB (Q : IVec S8192 32) (t : ℕ) (ht : t < 8) : IVec S1024x1 32 :=
  fun i => Q (ix1 ⟨1024 * t + (i 0).val, by have := (i 0).isLt; change (i 0).val < 1024 at this; omega⟩)

/-- Block `t` of the rows. -/
def xB (x : FVec F S8192x256 .f32) (t : ℕ) (ht : t < 8) : FVec F S1024x256 .bf16 :=
  fun i => truncf .bf16 x bitsLt_bf16_f32 (ix2 ⟨1024 * t + (i 0).val, by have := (i 0).isLt; change (i 0).val < 1024 at this; omega⟩ (i 1))

/-- The first result: block by block. -/
def quantK (x : FVec F S8192x256 .f32) (Q : IVec S8192 32) (E : FVec F S3328x256 .f32) : FVec F S8192x256 .f32 :=
  fun j => have h : (j 0).val < 8192 := (j 0).isLt
    quantBlk (qB Q ((j 0).val / 1024) (by omega)) (xB x ((j 0).val / 1024) (by omega)) (truncf .bf16 E bitsLt_bf16_f32)
      (ix2 ⟨(j 0).val % 1024, by omega⟩ (j 1))

/-- The last result, as a column: block by block. -/
def indexCol (x : FVec F S8192x256 .f32) (Q : IVec S8192 32) (E : FVec F S3328x256 .f32) : IVec S8192x1 32 :=
  fun j => have h : (j 0).val < 8192 := (j 0).isLt
    indexBlk (F := F) (qB Q ((j 0).val / 1024) (by omega)) (xB x ((j 0).val / 1024) (by omega)) (truncf .bf16 E bitsLt_bf16_f32)
      (ix2 ⟨(j 0).val % 1024, by omega⟩ (j 1))

/-- The windows' blocks: block `t` of the rows, all of the table. -/
theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, 0] :=
  (by decide +kernel : ∀ t : Fin grid0.N, win0_2.index t = ![0, 0])
theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])

/-- What the region finds in the arrays its windows read. -/
theorem V_main_v0 (c : Dev nD) : V m c main_v0 = (shapeCast S8192x1 (m ((c : Thread nD τ).loc main_arg1)) shapeCasts_S8192_S8192x1 : IVec S8192x1 32) := by
  simp only [V, V0, hostOps0, List.flatten_cons, List.flatten_nil, List.append_nil]
  after_results
  rfl
theorem V_main_v1 (c : Dev nD) : V m c main_v1 = (truncf .bf16 (m ((c : Thread nD τ).loc main_arg0) : FVec F S8192x256 .f32) bitsLt_bf16_f32) := by
  simp only [V, V0, hostOps0, List.flatten_cons, List.flatten_nil, List.append_nil]
  after_results
theorem V_main_v2 (c : Dev nD) : V m c main_v2 = (truncf .bf16 (m ((c : Thread nD τ).loc main_arg2) : FVec F S3328x256 .f32) bitsLt_bf16_f32) := by
  simp only [V, V0, hostOps0, List.flatten_cons, List.flatten_nil, List.append_nil]
  after_results

theorem iblk0 (c : Dev nD) (t : Fin cfg0.N) (ht : t.val < 8) :
    (iblk m c 0 t : IVec S1024x1 32) = qB (m ((c : Thread nD τ).loc main_arg1)) t.val ht := by
  funext y
  have e : ((cfg0.win 0).blk t).view.emb y = ix2 ⟨1024 * t.val + (y 0).val, by have := (y 0).isLt; change (y 0).val < 1024 at this; omega⟩ (y 1) := by
    funext a
    apply Fin.ext
    match a with
    | ⟨0, _⟩ =>
      blk_simp [index0]
      show t.val * 1024 + (y 0).val = 1024 * t.val + (y 0).val
      omega
    | ⟨1, _⟩ =>
      blk_simp [index0]
  show V m c main_v0 (((cfg0.win 0).blk t).view.emb y) = _
  rw [e, V_main_v0]
  unfold qB
  pointwise

theorem iblk1 (c : Dev nD) (t : Fin cfg0.N) (ht : t.val < 8) :
    (iblk m c 1 t : FVec F S1024x256 .bf16) = xB (m ((c : Thread nD τ).loc main_arg0)) t.val ht := by
  funext y
  have e : ((cfg0.win 1).blk t).view.emb y = ix2 ⟨1024 * t.val + (y 0).val, by have := (y 0).isLt; change (y 0).val < 1024 at this; omega⟩ (y 1) := by
    funext a
    apply Fin.ext
    match a with
    | ⟨0, _⟩ =>
      blk_simp [index1]
      show t.val * 1024 + (y 0).val = 1024 * t.val + (y 0).val
      omega
    | ⟨1, _⟩ =>
      blk_simp [index1]
      rfl
  show V m c main_v1 (((cfg0.win 1).blk t).view.emb y) = _
  rw [e, V_main_v1]
  rfl

theorem iblk2 (c : Dev nD) (t : Fin cfg0.N) :
    (iblk m c 2 t : FVec F S3328x256 .bf16) = truncf .bf16 (m ((c : Thread nD τ).loc main_arg2) : FVec F S3328x256 .f32) bitsLt_bf16_f32 := by
  funext y
  have e : ((cfg0.win 2).blk t).view.emb y = y := by
    funext a
    apply Fin.ext
    match a with
    | ⟨0, _⟩ => blk_simp [index2]
    | ⟨1, _⟩ => blk_simp [index2]
  show V m c main_v2 (((cfg0.win 2).blk t).view.emb y) = _
  rw [e, V_main_v2]

/-- The first result on block `t`. -/
theorem quantK_at (x : FVec F S8192x256 .f32) (Q : IVec S8192 32) (E : FVec F S3328x256 .f32) (t : ℕ) (ht : t < 8) (r : ℕ) (hr : r < 1024)
    (h : 1024 * t + r < 8192) (k : Fin 256) :
    quantK x Q E (ix2 ⟨1024 * t + r, h⟩ k) = quantBlk (qB Q t ht) (xB x t ht) (truncf .bf16 E bitsLt_bf16_f32) (ix2 ⟨r, hr⟩ k) := by
  have h1 : (1024 * t + r) / 1024 = t := by omega
  have h2 : (1024 * t + r) % 1024 = r := by omega
  have key : ∀ (t' r' : ℕ) (e : t' = t) (e' : r' = r) (ht' : t' < 8) (hr' : r' < 1024),
      quantBlk (qB Q t' ht') (xB x t' ht') (truncf .bf16 E bitsLt_bf16_f32) (ix2 ⟨r', hr'⟩ k)
        = quantBlk (qB Q t ht) (xB x t ht) (truncf .bf16 E bitsLt_bf16_f32) (ix2 ⟨r, hr⟩ k) := by
    rintro _ _ rfl rfl _ _; rfl
  exact key _ _ h1 h2 _ _

/-- The last result on block `t`. -/
theorem indexCol_at (x : FVec F S8192x256 .f32) (Q : IVec S8192 32) (E : FVec F S3328x256 .f32) (t : ℕ) (ht : t < 8) (r : ℕ) (hr : r < 1024)
    (h : 1024 * t + r < 8192) (k : Fin 1) :
    indexCol (F := F) x Q E (ix2 ⟨1024 * t + r, h⟩ k) = indexBlk (F := F) (qB Q t ht) (xB x t ht) (truncf .bf16 E bitsLt_bf16_f32) (ix2 ⟨r, hr⟩ k) := by
  have h1 : (1024 * t + r) / 1024 = t := by omega
  have h2 : (1024 * t + r) % 1024 = r := by omega
  have key : ∀ (t' r' : ℕ) (e : t' = t) (e' : r' = r) (ht' : t' < 8) (hr' : r' < 1024),
      indexBlk (F := F) (qB Q t' ht') (xB x t' ht') (truncf .bf16 E bitsLt_bf16_f32) (ix2 ⟨r', hr'⟩ k)
        = indexBlk (F := F) (qB Q t ht) (xB x t ht) (truncf .bf16 E bitsLt_bf16_f32) (ix2 ⟨r, hr⟩ k) := by
    rintro _ _ rfl rfl _ _; rfl
  exact key _ _ h1 h2 _ _

theorem arr4 (c : Dev nD) : (dats m 0 c).arrAt 4 cfg0.N
    = quantK (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht : t.val < 8 := lt_of_lt_of_eq t.isLt (show cfg0.N = 8 from N_0)
  have e : ((cfg0.win 4).blk t).view.emb y = ix2 ⟨1024 * t.val + (y 0).val, by have := (y 0).isLt; change (y 0).val < 1024 at this; omega⟩ (y 1) := by
    funext a
    apply Fin.ext
    match a with
    | ⟨0, _⟩ =>
      blk_simp [index4]
      show t.val * 1024 + (y 0).val = 1024 * t.val + (y 0).val
      omega
    | ⟨1, _⟩ =>
      blk_simp [index4]
      rfl
  rw [e]
  blk_simp
  rw [after0_4, iblk0 m c t ht, iblk1 m c t ht, iblk2]
  refine Eq.trans ?_ (quantK_at _ _ _ t.val ht (y 0).val (y 0).isLt _ (y 1)).symm
  generalize quantBlk (F := F) _ _ _ = G
  refine congrArg G ?_
  funext a
  match a with
  | ⟨0, _⟩ => rfl
  | ⟨1, _⟩ => rfl

theorem arr5 (c : Dev nD) : (dats m 0 c).arrAt 5 cfg0.N
    = indexCol (F := F) (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht : t.val < 8 := lt_of_lt_of_eq t.isLt (show cfg0.N = 8 from N_0)
  have e : ((cfg0.win 5).blk t).view.emb y = ix2 ⟨1024 * t.val + (y 0).val, by have := (y 0).isLt; change (y 0).val < 1024 at this; omega⟩ (y 1) := by
    funext a
    apply Fin.ext
    match a with
    | ⟨0, _⟩ =>
      blk_simp [index5]
      show t.val * 1024 + (y 0).val = 1024 * t.val + (y 0).val
      omega
    | ⟨1, _⟩ =>
      blk_simp [index5]
  rw [e]
  blk_simp
  rw [after0_5, iblk0 m c t ht, iblk1 m c t ht, iblk2]
  refine Eq.trans ?_ (indexCol_at _ _ _ t.val ht (y 0).val (y 0).isLt _ (y 1)).symm
  generalize indexBlk (F := F) _ _ _ = G
  refine congrArg G ?_
  funext a
  match a with
  | ⟨0, _⟩ => rfl
  | ⟨1, _⟩ => exact Subsingleton.elim (α := Fin 1) _ _

theorem arr6 (c : Dev nD) : (dats m 0 c).arrAt 6 cfg0.N
    = fun _ => lossSum (m ((c : Thread nD τ).loc main_arg2) : FVec F S3328x256 .f32) 13 (Nat.le_refl 13) := by
  refine (dats m 0 c).arrAt_eq_of_after_last 6 t0_7 (by decide +kernel) _ fun j => ?_
  blk_simp
  rw [after0_6]
  unfold acc tab
  rw [V_main_arg2]
  rfl

/-- The third result. -/
def lossK (E : FVec F S3328x256 .f32) : FVec F S_ .f32 :=
  Host.negf (Host.divf (fun _ => lossSum E 13 (Nat.le_refl 13)) (constant S_ .f32 0x45500000#32))

/-- The last result. -/
def indexK (x : FVec F S8192x256 .f32) (Q : IVec S8192 32) (E : FVec F S3328x256 .f32) : IVec S8192 32 :=
  shapeCast S8192 (indexCol (F := F) x Q E) shapeCasts_S8192x1_S8192

/-- What the lines after the region leave. -/
theorem tail_v6 (c : Dev nD) : Pipeline.afterTail₀ cfgs (dats m) 0 (V0 m) [hostOps1] c main_v6
    = lossK (m ((c : Thread nD τ).loc main_arg2)) := by
  unfold Pipeline.afterTail₀
  simp only [hostOps1, List.flatten_cons, List.flatten_nil, List.append_nil]
  after_results
  have h := (Pipeline.withArrays_arr spec0 launch0.win.arr_inj c (V0 m c) (fun w => (dats m 0 c).arrAt w cfg0.N) 6).trans (arr6 m c)
  unfold lossK
  erw [h]
  rfl

theorem tail_v7 (c : Dev nD) : Pipeline.afterTail₀ cfgs (dats m) 0 (V0 m) [hostOps1] c main_v7
    = indexK (F := F) (m ((c : Thread nD τ).loc main_arg0)) (m ((c : Thread nD τ).loc main_arg1)) (m ((c : Thread nD τ).loc main_arg2)) := by
  unfold Pipeline.afterTail₀
  simp only [hostOps1, List.flatten_cons, List.flatten_nil, List.append_nil]
  after_results
  have h := (Pipeline.withArrays_arr spec0 launch0.win.arr_inj c (V0 m c) (fun w => (dats m 0 c).arrAt w cfg0.N) 5).trans (arr5 m c)
  unfold indexK
  erw [h]
  rfl

theorem tail_cst (c : Dev nD) : Pipeline.afterTail₀ cfgs (dats m) 0 (V0 m) [hostOps1] c main_cst_0
    = (constant S_ .f32 0x00000000#32 : FVec F S_ .f32) := by
  unfold Pipeline.afterTail₀
  simp only [hostOps1, List.flatten_cons, List.flatten_nil, List.append_nil]
  after_results

/-- The run: every result named, the arguments unchanged. -/
theorem results : θ_run defs (onTc (τ := τ) (main (F := F))) ⟨m, fun _ => 0, ρ⟩ (fun r => ∀ c : Dev nD,
      r.2.mem ((c.tc : Thread nD τ).loc main_v3_0) = quantK (m ((c.tc : Thread nD τ).loc main_arg0)) (m ((c.tc : Thread nD τ).loc main_arg1)) (m ((c.tc : Thread nD τ).loc main_arg2))
      ∧ r.2.mem ((c.tc : Thread nD τ).loc main_cst_0) = (constant S_ .f32 0x00000000#32 : FVec F S_ .f32)
      ∧ r.2.mem ((c.tc : Thread nD τ).loc main_v6) = lossK (m ((c.tc : Thread nD τ).loc main_arg2))
      ∧ r.2.mem ((c.tc : Thread nD τ).loc main_v7) = indexK (F := F) (m ((c.tc : Thread nD τ).loc main_arg0)) (m ((c.tc : Thread nD τ).loc main_arg1)) (m ((c.tc : Thread nD τ).loc main_arg2))) :=
  (θ_run defs _ _).mono (fun r h c => ⟨((h c).1 4).trans (arr4 m c),
    ((h c).2 main_cst_0 (Pipeline.mem_restRefs_of main_cst_0 (by decide) (by decide))).trans (tail_cst m c),
    ((h c).2 main_v6 (Pipeline.mem_restRefs_of main_v6 (by decide) (by decide))).trans (tail_v6 m c),
    ((h c).2 main_v7 (Pipeline.mem_restRefs_of main_v7 (by decide) (by decide))).trans (tail_v7 m c)⟩)
    (run_main m ρ)

end Cert.KernelIdeal.Run

end
-- ==== Proof.Math.Same.lean ====
/- Under the precondition each result of the kernel is the reference's. -/
module

public import proofs.«01_k».proof.Proof.Math.Pre
public import proofs.«01_k».proof.Proof.Math.Row
public import proofs.«01_k».proof.Proof.Math.Loss
public import proofs.«01_k».proof.Proof.Run.Results

@[expose] public section

set_option maxRecDepth 16384

noncomputable section

namespace Cert.Proof.Math

open Idealize.ShloMosaic Idealize.ShloMosaic.Pointwise
open Cert.KernelIdeal Cert.KernelIdeal.Gen Cert.KernelIdeal.Run Cert.KernelIdeal.Val

/-- The arguments that the precondition admits, as reals and as numbers of types. -/
structure Admitted (x : FVec Ideal S8192x256 .f32) (Q : IVec S8192 32) (E : FVec Ideal S3328x256 .f32) : Prop where
  x_real : ∀ (r : Fin 8192) (k : Fin 256), x (ix2 r k) = (((x (ix2 r k) : EReal).toReal : ℝ) : EReal)
  q_type : ∀ r : Fin 8192, ∃ p, p < 26 ∧ Q (ix1 r) = BitVec.ofNat 32 p
  e_real : ∀ (n : Fin 3328) (k : Fin 256), E (ix2 n k) = (((E (ix2 n k) : EReal).toReal : ℝ) : EReal)
  e_norm : ∀ n : Fin 3328, ∑ d : Fin 256, (E (ix2 n d) * E (ix2 n d) : EReal) = 1

theorem admitted [Cert.Pre_normalised_in_range.Facts] (x : FVec Ideal S8192x256 .f32) (Q : IVec S8192 32) (E : FVec Ideal S3328x256 .f32)
    (h : (Cert.Pre_normalised_in_range.fn (F := Ideal) x Q E).1 = (fun _ => 1#1)
      ∧ (Cert.Pre_normalised_in_range.fn (F := Ideal) x Q E).2.1 = (fun _ => 1#1)
      ∧ (Cert.Pre_normalised_in_range.fn (F := Ideal) x Q E).2.2 = (fun _ => 1#1)) : Admitted x Q E where
  x_real := pre_x x Q E h.1
  q_type := pre_q x Q E h.2.1
  e_real n k := real_of_squares (fun d => E (ix2 n d)) (pre_norm x Q E h.2.2 n) k
  e_norm := pre_norm x Q E h.2.2

variable {x : FVec Ideal S8192x256 .f32} {Q : IVec S8192 32} {E : FVec Ideal S3328x256 .f32} (h : Admitted x Q E)

/-- A row, by its block of 1024 and its place there. -/
theorem row_split (R : Fin 8192) : ∃ (t : ℕ) (ht : t < 8) (r : ℕ) (hr : r < 1024) (hR : 1024 * t + r < 8192), R = ⟨1024 * t + r, hR⟩ :=
  ⟨R.val / 1024, by omega, R.val % 1024, by omega, by omega, Fin.ext (by show R.val = 1024 * (R.val / 1024) + R.val % 1024; omega)⟩

include h in
theorem quant_eq : quantK (F := Ideal) x Q E = Cert.ReferenceIdeal.Ref.quantRef (F := Ideal) x Q E := by
  funext j
  obtain ⟨R, d, rfl⟩ : ∃ (R : Fin 8192) (d : Fin 256), ix2 R d = j := ⟨j 0, j 1, by funext a; match a with | 0 => rfl | 1 => rfl⟩
  obtain ⟨t, ht, r, hr, hR, rfl⟩ := row_split R
  obtain ⟨p, hp, hq⟩ := h.q_type ⟨1024 * t + r, hR⟩
  obtain ⟨m, hm, hf⟩ := exists_first (by norm_num) (logit (fun k => (x (ix2 ⟨1024 * t + r, hR⟩ k) : EReal).toReal) (fun n k => (E (ix2 n k) : EReal).toReal) p hp)
  refine (quantK_at x Q E t ht r hr hR d).trans ?_
  exact (quantBlk_real (qB Q t ht) (xB x t ht) (truncf .bf16 E bitsLt_bf16_f32) ⟨r, hr⟩ _ _ p hp hq (fun k => h.x_real _ k) h.e_real m ⟨hm, hf⟩ d).trans
    (quantRef_real x Q E _ _ _ p hp hq (fun k => h.x_real _ k) h.e_real m ⟨hm, hf⟩ d).symm

include h in
theorem index_eq : indexK (F := Ideal) x Q E = Cert.ReferenceIdeal.Ref.indexRef (F := Ideal) x Q E := by
  funext j
  obtain ⟨R, rfl⟩ : ∃ R : Fin 8192, ix1 R = j := ⟨j 0, by funext a; match a with | 0 => rfl⟩
  have h1 : indexK (F := Ideal) x Q E (ix1 R) = indexCol (F := Ideal) x Q E (ix2 R 0) := by
    unfold indexK
    generalize indexCol (F := Ideal) x Q E = G
    pointwise
  rw [h1]
  obtain ⟨t, ht, r, hr, hR, rfl⟩ := row_split R
  obtain ⟨p, hp, hq⟩ := h.q_type ⟨1024 * t + r, hR⟩
  obtain ⟨m, hm, hf⟩ := exists_first (by norm_num) (logit (fun k => (x (ix2 ⟨1024 * t + r, hR⟩ k) : EReal).toReal) (fun n k => (E (ix2 n k) : EReal).toReal) p hp)
  refine (indexCol_at x Q E t ht r hr hR 0).trans ?_
  exact (indexBlk_real (qB Q t ht) (xB x t ht) (truncf .bf16 E bitsLt_bf16_f32) ⟨r, hr⟩ _ _ p hp hq (fun k => h.x_real _ k) h.e_real m ⟨hm, hf⟩).trans
    (indexRef_real x Q E _ _ _ p hp hq (fun k => h.x_real _ k) h.e_real m ⟨hm, hf⟩).symm

include h in
theorem lossK_eq : lossK (F := Ideal) E = Cert.ReferenceIdeal.Ref.lossRef (F := Ideal) E := by
  funext j
  exact (loss_eq E _ h.e_real h.e_norm j).symm

end Cert.Proof.Math

end

end
-- ==== Proof.Claims.Algebraic.lean ====
/-
The value claim: over the extended reals, under the precondition, the four results are the reference's.
-/
module

public import proofs.«01_k».proof.Defs
public import proofs.«01_k».proof.Proof.Math.Same
public import proofs.«01_k».proof.Proof.Ref.Run
public import Idealize.ShloMosaic.Lib.Claim

@[expose] public section

noncomputable section

open Idealize.ShloMosaic Idealize.ShloMosaic.TcCoe Idealize.SL.Sem

namespace Cert.Proof.Claims

variable [Cert.Pre_normalised_in_range.Facts]

/-- The kernel's four results are the reference's. -/
theorem algebraic : Cert.algebraic_KernelIdeal_ReferenceIdeal_pre_normalised_in_range := by
  intro m g m' g' hpre hargs
  refine ⟨fun c => Cert.ReferenceIdeal.Ref.quantRef (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => (constant Cert.KernelIdeal.S_ .f32 0x00000000#32 : FVec Ideal Cert.KernelIdeal.S_ .f32),
    fun c => Cert.ReferenceIdeal.Ref.lossRef (F := Ideal) (m ((c.tc : Thread Cert.KernelIdeal.nD Cert.KernelIdeal.τ).loc Cert.KernelIdeal.main_arg2)),
    fun c => Cert.ReferenceIdeal.Ref.indexRef (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun r h c => ?_)
      (θ_run_and (Cert.KernelIdeal.Run.results (F := Ideal) m g) (Cert.KernelIdeal.Run.unchanged (F := Ideal) m g))
    have ha := Math.admitted _ _ _ (hpre c)
    obtain ⟨h0, h1, h2, h3⟩ := h.1 c
    exact ⟨h0.trans (Math.quant_eq ha), h1, h2.trans (Math.lossK_eq ha), h3.trans (Math.index_eq ha), h.2 c⟩
  · refine (θ_run Cert.ReferenceIdeal.defs _ _).mono (fun r h c => ?_) (Cert.ReferenceIdeal.Ref.run (F := Ideal) m' g')
    obtain ⟨h0, h1, h2, h3, h4⟩ := h c
    obtain ⟨a0, a1, a2⟩ := hargs c
    rw [a0, a1, a2] at h0 h3
    rw [a2] at h2
    exact ⟨h0, h1, h2, h3, h4⟩

end Cert.Proof.Claims

end
-- ==== Proof.lean ====
/-
The certificate: the frames of the three programs, what the named constant stands for, and the four results.
-/
module

public import proofs.«01_k».proof.Defs
public import proofs.«01_k».proof.Proof.Claims.Frames
public import proofs.«01_k».proof.Proof.Claims.Algebraic
public import proofs.«01_k».proof.Proof.Gen.Pre_normalised_in_range
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Proof.Claims

theorem claim : Cert.Claim :=
  ⟨Cert.Kernel.Gen.facts, Cert.KernelIdeal.Gen.facts, Cert.ReferenceIdeal.Gen.facts, Cert.Pre_normalised_in_range.Gen.facts,
    frame_kernel, frame_ideal, fun m ρ _ => frame_ideal m ρ trivial, frame_reference, fun m ρ _ => frame_reference m ρ trivial, preserves,
    letI := Cert.Pre_normalised_in_range.Gen.facts
    algebraic⟩

end Cert.Proof

end
